-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S32x16384x2 : Shape := ⟨3, ![32, 16384, 2]⟩
abbrev S32x2x8x128 : Shape := ⟨4, ![32, 2, 8, 128]⟩
abbrev S32x2x16384x128 : Shape := ⟨4, ![32, 2, 16384, 128]⟩
abbrev S32x2x16384 : Shape := ⟨3, ![32, 2, 16384]⟩
abbrev S64x128 : Shape := ⟨2, ![64, 128]⟩
abbrev S32x16x128 : Shape := ⟨3, ![32, 16, 128]⟩
abbrev S64x1 : Shape := ⟨2, ![64, 1]⟩
abbrev S1x2x8x128 : Shape := ⟨4, ![1, 2, 8, 128]⟩
abbrev S1x2x2048x128 : Shape := ⟨4, ![1, 2, 2048, 128]⟩
abbrev S1x2x2048 : Shape := ⟨3, ![1, 2, 2048]⟩
abbrev S1x16x128 : Shape := ⟨3, ![1, 16, 128]⟩
abbrev S16x1 : Shape := ⟨2, ![16, 1]⟩
abbrev S16x128 : Shape := ⟨2, ![16, 128]⟩
abbrev S64 : Shape := ⟨1, ![64]⟩
abbrev S2x2048 : Shape := ⟨2, ![2, 2048]⟩
abbrev S2048x2 : Shape := ⟨2, ![2048, 2]⟩
abbrev S1x1x8x128 : Shape := ⟨4, ![1, 1, 8, 128]⟩
abbrev S8x128 : Shape := ⟨2, ![8, 128]⟩
abbrev S1x1x2048x128 : Shape := ⟨4, ![1, 1, 2048, 128]⟩
abbrev S2048x128 : Shape := ⟨2, ![2048, 128]⟩
abbrev S2048x1 : Shape := ⟨2, ![2048, 1]⟩
abbrev S8x2048 : Shape := ⟨2, ![8, 2048]⟩
abbrev S8x1 : Shape := ⟨2, ![8, 1]⟩
abbrev S8 : Shape := ⟨1, ![8]⟩
abbrev S1x128 : Shape := ⟨2, ![1, 128]⟩
abbrev S1x8x128 : Shape := ⟨3, ![1, 8, 128]⟩
abbrev S32x1x2 : Shape := ⟨3, ![32, 1, 2]⟩

abbrev nBuf : Space → Nat
  | .hbm => 25
  | .vmem => 23
  | .smem => 0
  | _ => 0

abbrev bufTy : (tb : Table) → Fin (tcTables nBuf tb) → BufTy
  | .hbm, ⟨0, _⟩ => ⟨S32x1x2048, .f32⟩
  | .hbm, ⟨1, _⟩ => ⟨S32x1x2x128, .f32⟩
  | .hbm, ⟨2, _⟩ => ⟨S32x1x2x128, .f32⟩
  | .hbm, ⟨3, _⟩ => ⟨S32x16384x2x128, .i8⟩
  | .hbm, ⟨4, _⟩ => ⟨S32x16384x2, .f32⟩
  | .hbm, ⟨5, _⟩ => ⟨S32x16384x2x128, .i8⟩
  | .hbm, ⟨6, _⟩ => ⟨S32x16384x2, .f32⟩
  | .hbm, ⟨7, _⟩ => ⟨S32x2x8x128, .f32⟩
  | .hbm, ⟨8, _⟩ => ⟨S32x2x8x128, .bf16⟩
  | .hbm, ⟨9, _⟩ => ⟨S32x2x16384x128, .i8⟩
  | .hbm, ⟨10, _⟩ => ⟨S32x2x16384x128, .i8⟩
  | .hbm, ⟨11, _⟩ => ⟨S32x2x16384, .f32⟩
  | .hbm, ⟨12, _⟩ => ⟨S32x2x16384, .f32⟩
  | .hbm, ⟨13, _⟩ => ⟨S64x128, .f32⟩
  | .hbm, ⟨14, _⟩ => ⟨S64x128, .f32⟩
  | .hbm, ⟨15, _⟩ => ⟨S32x16x128, .f32⟩
  | .hbm, ⟨16, _⟩ => ⟨S64x128, .i8⟩
  | .hbm, ⟨17, _⟩ => ⟨S64x1, .f32⟩
  | .hbm, ⟨18, _⟩ => ⟨S64x128, .i8⟩
  | .hbm, ⟨19, _⟩ => ⟨S64x1, .f32⟩
  | .hbm, ⟨20, _⟩ => ⟨S32x1x2048, .f32⟩
  | .hbm, ⟨21, _⟩ => ⟨S32x1x2x128, .i8⟩
  | .hbm, ⟨22, _⟩ => ⟨S32x1x2, .f32⟩
  | .hbm, ⟨23, _⟩ => ⟨S32x1x2x128, .i8⟩
  | .hbm, ⟨24, _⟩ => ⟨S32x1x2, .f32⟩
  | .local _ .vmem, ⟨0, _⟩ => ⟨S1x2x8x128, .bf16⟩
  | .local _ .vmem, ⟨1, _⟩ => ⟨S1x2x8x128, .bf16⟩
  | .local _ .vmem, ⟨2, _⟩ => ⟨S64x128, .f32⟩
  | .local _ .vmem, ⟨3, _⟩ => ⟨S64x128, .f32⟩
  | .local _ .vmem, ⟨4, _⟩ => ⟨S1x2x2048x128, .i8⟩
  | .local _ .vmem, ⟨5, _⟩ => ⟨S1x2x2048x128, .i8⟩
  | .local _ .vmem, ⟨6, _⟩ => ⟨S1x2x2048, .f32⟩
  | .local _ .vmem, ⟨7, _⟩ => ⟨S1x2x2048, .f32⟩
  | .local _ .vmem, ⟨8, _⟩ => ⟨S1x2x2048x128, .i8⟩
  | .local _ .vmem, ⟨9, _⟩ => ⟨S1x2x2048x128, .i8⟩
  | .local _ .vmem, ⟨10, _⟩ => ⟨S1x2x2048, .f32⟩
  | .local _ .vmem, ⟨11, _⟩ => ⟨S1x2x2048, .f32⟩
  | .local _ .vmem, ⟨12, _⟩ => ⟨S1x16x128, .f32⟩
  | .local _ .vmem, ⟨13, _⟩ => ⟨S1x16x128, .f32⟩
  | .local _ .vmem, ⟨14, _⟩ => ⟨S64x128, .i8⟩
  | .local _ .vmem, ⟨15, _⟩ => ⟨S64x1, .f32⟩
  | .local _ .vmem, ⟨16, _⟩ => ⟨S64x128, .i8⟩
  | .local _ .vmem, ⟨17, _⟩ => ⟨S64x1, .f32⟩
  | .local _ .vmem, ⟨18, _⟩ => ⟨S16x1, .f32⟩
  | .local _ .vmem, ⟨19, _⟩ => ⟨S16x1, .f32⟩
  | .local _ .vmem, ⟨20, _⟩ => ⟨S16x128, .f32⟩
  | .local _ .vmem, ⟨21, _⟩ => ⟨S64x128, .f32⟩
  | .local _ .vmem, ⟨22, _⟩ => ⟨S64x128, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v110 : BitVec 1 := Scalar.cmpi .eq arg1 c7_i32
  let v111 : BitVec 32 := Scalar.extui v110
  let c0_i32_64 : BitVec 32 := 0#32
  let v112 : BitVec 1 := Scalar.cmpi .ne v111 c0_i32_64
  v112

def k0_off1 (i : grid0.Coords) (c0_i32_69 : BitVec 32) : Fin 2 → Nat :=
  let arg0 : BitVec 32 := BitVec.ofNat 32 (i 0).val
  let c2_i32 : BitVec 32 := 2#32
  let v115 : BitVec 32 := Scalar.muli arg0 c2_i32
  let v116 : BitVec 32 := Scalar.addi v115 c0_i32_69
  let v117 : Index := Scalar.indexCast v116
  let c0_70 : Index := 0#32
  ![v117.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S64x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S32x16384x2 : Shape := ⟨3, ![32, 16384, 2]⟩
abbrev S_ : Shape := ⟨0, ![]⟩
abbrev S32x1x2 : Shape := ⟨3, ![32, 1, 2]⟩
abbrev S32x1x2x1 : Shape := ⟨4, ![32, 1, 2, 1]⟩
abbrev S32x2x8x128 : Shape := ⟨4, ![32, 2, 8, 128]⟩
abbrev S32x16384x2x1 : Shape := ⟨4, ![32, 16384, 2, 1]⟩
abbrev S32x16385x2x128 : Shape := ⟨4, ![32, 16385, 2, 128]⟩
abbrev S32x2x8x16385 : Shape := ⟨4, ![32, 2, 8, 16385]⟩
abbrev S32x2x8 : Shape := ⟨3, ![32, 2, 8]⟩
abbrev S32x2x8x1 : Shape := ⟨4, ![32, 2, 8, 1]⟩

abbrev nBuf : Space → Nat
  | .hbm => 105
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S32x1x2x128, .f32⟩
  | .hbm, ⟨2, _⟩ => ⟨S32x1x2x128, .f32⟩
  | .hbm, ⟨3, _⟩ => ⟨S32x16384x2x128, .i8⟩
  | .hbm, ⟨4, _⟩ => ⟨S32x16384x2, .f32⟩
  | .hbm, ⟨5, _⟩ => ⟨S32x16384x2x128, .i8⟩
  | .hbm, ⟨6, _⟩ => ⟨S32x16384x2, .f32⟩
  | .hbm, ⟨7, _⟩ => ⟨S32x1x2x128, .f32⟩
  | .hbm, ⟨8, _⟩ => ⟨S_, .f32⟩
  | .hbm, ⟨9, _⟩ => ⟨S32x1x2, .f32⟩
  | .hbm, ⟨10, _⟩ => ⟨S_, .f32⟩
  | .hbm, ⟨11, _⟩ => ⟨S32x1x2, .f32⟩
  | .hbm, ⟨12, _⟩ => ⟨S32x1x2, .i1⟩
  | .hbm, ⟨13, _⟩ => ⟨S_, .f32⟩
  | .hbm, ⟨14, _⟩ => ⟨S32x1x2, .f32⟩
  | .hbm, ⟨15, _⟩ => ⟨S32x1x2, .f32⟩
  | .hbm, ⟨16, _⟩ => ⟨S_, .f32⟩
  | .hbm, ⟨17, _⟩ => ⟨S32x1x2, .f32⟩
  | .hbm, ⟨18, _⟩ => ⟨S32x1x2, .f32⟩
  | .hbm, ⟨19, _⟩ => ⟨S32x1x2x1, .f32⟩
  | .hbm, ⟨20, _⟩ => ⟨S32x1x2x128, .f32⟩
  | .hbm, ⟨21, _⟩ => ⟨S32x1x2x128, .f32⟩
  | .hbm, ⟨22, _⟩ => ⟨S32x1x2x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x1x2x128, .f32⟩
  | .hbm, ⟨27, _⟩ => ⟨S32x1x2x128, .f32⟩
  | .hbm, ⟨28, _⟩ => ⟨S_, .f32⟩
  | .hbm, ⟨29, _⟩ => ⟨S32x1x2x128, .f32⟩
  | .hbm, ⟨30, _⟩ => ⟨S32x1x2x128, .f32⟩
  | .hbm, ⟨31, _⟩ => ⟨S32x1x2x128, .i32⟩
  | .hbm, ⟨32, _⟩ => ⟨S32x1x2x128, .i8⟩
  | .hbm, ⟨33, _⟩ => ⟨S32x1x2x128, .f32⟩
  | .hbm, ⟨34, _⟩ => ⟨S_, .f32⟩
  | .hbm, ⟨35, _⟩ => ⟨S32x1x2, .f32⟩
  | .hbm, ⟨36, _⟩ => ⟨S_, .f32⟩
  | .hbm, ⟨37, _⟩ => ⟨S32x1x2, .f32⟩
  | .hbm, ⟨38, _⟩ => ⟨S32x1x2, .i1⟩
  | .hbm, ⟨39, _⟩ => ⟨S_, .f32⟩
  | .hbm, ⟨40, _⟩ => ⟨S32x1x2, .f32⟩
  | .hbm, ⟨41, _⟩ => ⟨S32x1x2, .f32⟩
  | .hbm, ⟨42, _⟩ => ⟨S_, .f32⟩
  | .hbm, ⟨43, _⟩ => ⟨S32x1x2, .f32⟩
  | .hbm, ⟨44, _⟩ => ⟨S32x1x2, .f32⟩
  | .hbm, ⟨45, _⟩ => ⟨S32x1x2x1, .f32⟩
  | .hbm, ⟨46, _⟩ => ⟨S32x1x2x128, .f32⟩
  | .hbm, ⟨47, _⟩ => ⟨S32x1x2x128, .f32⟩
  | .hbm, ⟨48, _⟩ => ⟨S32x1x2x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32x1x2x128, .f32⟩
  | .hbm, ⟨53, _⟩ => ⟨S32x1x2x128, .f32⟩
  | .hbm, ⟨54, _⟩ => ⟨S_, .f32⟩
  | .hbm, ⟨55, _⟩ => ⟨S32x1x2x128, .f32⟩
  | .hbm, ⟨56, _⟩ => ⟨S32x1x2x128, .f32⟩
  | .hbm, ⟨57, _⟩ => ⟨S32x1x2x128, .i32⟩
  | .hbm, ⟨58, _⟩ => ⟨S32x1x2x128, .i8⟩
  | .hbm, ⟨59, _⟩ => ⟨S32x2x8x128, .f32⟩
  | .hbm, ⟨60, _⟩ => ⟨S32x2x8x128, .bf16⟩
  | .hbm, ⟨61, _⟩ => ⟨S32x16384x2x128, .i32⟩
  | .hbm, ⟨62, _⟩ => ⟨S32x16384x2x128, .bf16⟩
  | .hbm, ⟨63, _⟩ => ⟨S32x16384x2, .bf16⟩
  | .hbm, ⟨64, _⟩ => ⟨S32x16384x2x1, .bf16⟩
  | .hbm, ⟨65, _⟩ => ⟨S32x16384x2x128, .bf16⟩
  | .hbm, ⟨66, _⟩ => ⟨S32x16384x2x128, .bf16⟩
  | .hbm, ⟨67, _⟩ => ⟨S32x1x2x128, .i32⟩
  | .hbm, ⟨68, _⟩ => ⟨S32x1x2x128, .bf16⟩
  | .hbm, ⟨69, _⟩ => ⟨S32x1x2, .bf16⟩
  | .hbm, ⟨70, _⟩ => ⟨S32x1x2x1, .bf16⟩
  | .hbm, ⟨71, _⟩ => ⟨S32x1x2x128, .bf16⟩
  | .hbm, ⟨72, _⟩ => ⟨S32x1x2x128, .bf16⟩
  | .hbm, ⟨73, _⟩ => ⟨S32x16385x2x128, .bf16⟩
  | .hbm, ⟨74, _⟩ => ⟨S32x16384x2x128, .i32⟩
  | .hbm, ⟨75, _⟩ => ⟨S32x16384x2x128, .bf16⟩
  | .hbm, ⟨76, _⟩ => ⟨S32x16384x2, .bf16⟩
  | .hbm, ⟨77, _⟩ => ⟨S32x16384x2x1, .bf16⟩
  | .hbm, ⟨78, _⟩ => ⟨S32x16384x2x128, .bf16⟩
  | .hbm, ⟨79, _⟩ => ⟨S32x16384x2x128, .bf16⟩
  | .hbm, ⟨80, _⟩ => ⟨S32x1x2x128, .i32⟩
  | .hbm, ⟨81, _⟩ => ⟨S32x1x2x128, .bf16⟩
  | .hbm, ⟨82, _⟩ => ⟨S32x1x2, .bf16⟩
  | .hbm, ⟨83, _⟩ => ⟨S32x1x2x1, .bf16⟩
  | .hbm, ⟨84, _⟩ => ⟨S32x1x2x128, .bf16⟩
  | .hbm, ⟨85, _⟩ => ⟨S32x1x2x128, .bf16⟩
  | .hbm, ⟨86, _⟩ => ⟨S32x16385x2x128, .bf16⟩
  | .hbm, ⟨87, _⟩ => ⟨S32x2x8x16385, .f32⟩
  | .hbm, ⟨88, _⟩ => ⟨S_, .f32⟩
  | .hbm, ⟨89, _⟩ => ⟨S32x2x8x16385, .f32⟩
  | .hbm, ⟨90, _⟩ => ⟨S32x2x8x16385, .f32⟩
  | .hbm, ⟨91, _⟩ => ⟨S_, .f32⟩
  | .hbm, ⟨92, _⟩ => ⟨S32x2x8, .f32⟩
  | .hbm, ⟨93, _⟩ => ⟨S32x2x8x1, .f32⟩
  | .hbm, ⟨94, _⟩ => ⟨S32x2x8x16385, .f32⟩
  | .hbm, ⟨95, _⟩ => ⟨S32x2x8x16385, .f32⟩
  | .hbm, ⟨96, _⟩ => ⟨S32x2x8x16385, .f32⟩
  | .hbm, ⟨97, _⟩ => ⟨S_, .f32⟩
  | .hbm, ⟨98, _⟩ => ⟨S32x2x8, .f32⟩
  | .hbm, ⟨99, _⟩ => ⟨S32x2x8x1, .f32⟩
  | .hbm, ⟨100, _⟩ => ⟨S32x2x8x16385, .bf16⟩
  | .hbm, ⟨101, _⟩ => ⟨S32x2x8x128, .f32⟩
  | .hbm, ⟨102, _⟩ => ⟨S32x2x8x128, .f32⟩
  | .hbm, ⟨103, _⟩ => ⟨S32x2x8x128, .f32⟩
  | .hbm, ⟨104, _⟩ => ⟨S32x1x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_cst_6 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_cst_8 : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Proof.GridFacts.lean ====
/- The grid of the decode kernel: where its three branches are taken, where its output windows rest, and the
   scratch buffers it carries from one point to the next. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 256 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 256 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x2048x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2048x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S16x1 .f32 := Memref.whole cc0_scratch0
abbrev scM0_1 : Memref sig .tc .vmem S16x1 .f32 := Memref.whole cc0_scratch1
abbrev scM0_2 : Memref sig .tc .vmem S16x128 .f32 := Memref.whole cc0_scratch2
abbrev scM0_3 : Memref sig .tc .vmem S64x128 .f32 := Memref.whole cc0_scratch3
abbrev scM0_4 : Memref sig .tc .vmem S64x128 .f32 := Memref.whole cc0_scratch4
/-- The scratch `arg14` the kernel carries between points, as a view: what it holds is stated through it. -/
abbrev VS0_0 : View sig .tc .vmem S16x1 .f32 := scM0_0.view
/-- The scratch `arg15` the kernel carries between points, as a view: what it holds is stated through it. -/
abbrev VS0_1 : View sig .tc .vmem S16x1 .f32 := scM0_1.view
/-- The scratch `arg16` the kernel carries between points, as a view: what it holds is stated through it. -/
abbrev VS0_2 : View sig .tc .vmem S16x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The first of the two rows the last block of a batch reads of the new token's buffers: the batch's first head. -/
theorem off0_row (i : grid0.Coords) : k0_off1 i 0#32 0 = (i 0).val * 2 := by
  have h : (i 0).val < 32 := (i 0).isLt
  simp [k0_off1, Scalar.indexCast, Scalar.addi, Scalar.muli, IntOp.addi, IntOp.muli, BitVec.toNat_add, BitVec.toNat_mul]
  omega

/-- and the second. -/
theorem off1_row (i : grid0.Coords) : k0_off1 i 1#32 0 = (i 0).val * 2 + 1 := by
  have h : (i 0).val < 32 := (i 0).isLt
  simp [k0_off1, Scalar.indexCast, Scalar.addi, Scalar.muli, IntOp.addi, IntOp.muli, BitVec.toNat_add, BitVec.toNat_mul]
  omega

/-- Both rows are read from their first column. -/
theorem off_col (i : grid0.Coords) (w : BitVec 32) : k0_off1 i w 1 = 0 := rfl

/-- The window of the attention output rests except at the last block of a batch. -/
theorem idle0_7 (t : Fin cfg0.N) : cfg0.idle 7 (grid0.coords t) = !(decide (t.val % 8 = 7)) := by
  show (!(k0_cond3 (grid0.coords t) == 1#1)) = _
  congr 1
  rw [Bool.eq_iff_iff]; simpa using hcond0_2 t

/-- The four windows of the quantised new token rest except at the first point. -/
theorem idle0_q (t : Fin cfg0.N) : (!(k0_cond1 (grid0.coords t) == 1#1)) = !(decide (t.val % 256 = 0)) := by
  congr 1
  rw [Bool.eq_iff_iff]; simpa using hcond0_0 t
theorem idle0_8 (t : Fin cfg0.N) : cfg0.idle 8 (grid0.coords t) = !(decide (t.val % 256 = 0)) := idle0_q t
theorem idle0_9 (t : Fin cfg0.N) : cfg0.idle 9 (grid0.coords t) = !(decide (t.val % 256 = 0)) := idle0_q t
theorem idle0_10 (t : Fin cfg0.N) : cfg0.idle 10 (grid0.coords t) = !(decide (t.val % 256 = 0)) := idle0_q t
theorem idle0_11 (t : Fin cfg0.N) : cfg0.idle 11 (grid0.coords t) = !(decide (t.val % 256 = 0)) := idle0_q t

end Cert.KernelIdeal.Attn
-- ==== Proof.Step.lean ====
/- One block of the running softmax, as mathematics: what the maximum, the normaliser and the accumulator of every
   row become, and the value a row ends with. -/
module

public import proofs.«01_k».proof.Proof.GridFacts
public import Idealize.ShloMosaic.Lib.Pointwise

@[expose] public section

set_option maxRecDepth 16384

noncomputable section

namespace Cert.KernelIdeal.Attn

open Idealize.ShloMosaic Idealize.ShloMosaic.TcCoe
open Cert.KernelIdeal.Gen

/-- The factor on every score: one over the square root of the head's width, as the constant the program holds. -/
def scale : EReal := Ideal.ofBits .f32 0x3DB504F3#32

/-- The score of a query row against a key row. -/
def score (q k : Fin 128 → EReal) : EReal := (∑ d, q d * k d) * scale

/-- A cached row dequantised: its codes as integers, times the row's scale. -/
def deq (codes : IVec S1x2x2048x128 8) (scales : FVec Ideal S1x2x2048 .f32) (h : Fin 2) (k : Fin 2048) (d : Fin 128) : EReal :=
  (((codes (ix4 0 h k d)).toInt : ℝ) : EReal) * scales (ix3 0 h k)

/-- The maximum after a block with scores `s`. -/
def newM (m : EReal) (s : Fin 2048 → EReal) : EReal := max m (Finset.univ.fold max ⊥ s)

/-- The factor the old sums are rescaled by. -/
def alpha (m m' : EReal) : EReal := Ideal.exp (m - m')

/-- The normaliser after a block. -/
def newL (m l : EReal) (s : Fin 2048 → EReal) : EReal :=
  alpha m (newM m s) * l + ∑ k, Ideal.exp (s k - newM m s)

/-- One lane of the accumulator after a block, `v` being that lane of the block's values. -/
def newA (m a : EReal) (s v : Fin 2048 → EReal) : EReal :=
  alpha m (newM m s) * a + ∑ k, Ideal.exp (s k - newM m s) * v k

/-- The output of a row: the new token, with score `s` and value `v`, folded in, and the quotient taken. -/
def lastY (m l a s v : EReal) : EReal :=
  Ideal.div (alpha m (max m s) * a + Ideal.exp (s - max m s) * v) (alpha m (max m s) * l + Ideal.exp (s - max m s))

/-- The head a row of the sixteen belongs to, and its place in the head's group. -/
def rowH (r : Fin 16) : Fin 2 := ⟨r.val / 8, by omega⟩
def rowG (r : Fin 16) : Fin 8 := ⟨r.val % 8, by omega⟩

/-- The sixteen rows as two heads of eight. -/
def row0 (g : Fin 8) : Fin 16 := ⟨g.val, by omega⟩
def row1 (g : Fin 8) : Fin 16 := ⟨8 + g.val, by omega⟩
theorem rowH_row0 (g : Fin 8) : rowH (row0 g) = 0 := Fin.ext (by simp only [rowH, row0, Fin.val_zero]; omega)
theorem rowG_row0 (g : Fin 8) : rowG (row0 g) = g := Fin.ext (by simp only [rowG, row0]; omega)
theorem rowH_row1 (g : Fin 8) : rowH (row1 g) = 1 := Fin.ext (by simp only [rowH, row1, Fin.val_one]; omega)
theorem rowG_row1 (g : Fin 8) : rowG (row1 g) = g := Fin.ext (by simp only [rowG, row1]; omega)

/-- The scores of a row against the block's keys. -/
def scores (q : FVec Ideal S1x2x8x128 .bf16) (kc : IVec S1x2x2048x128 8) (ks : FVec Ideal S1x2x2048 .f32) (r : Fin 16) (k : Fin 2048) : EReal :=
  score (fun d => q (ix4 0 (rowH r) (rowG r) d)) (deq kc ks (rowH r) k)

/-- The three running quantities after a block, row by row. -/
def stepM (q : FVec Ideal S1x2x8x128 .bf16) (kc : IVec S1x2x2048x128 8) (ks : FVec Ideal S1x2x2048 .f32)
    (pm : FVec Ideal S16x1 .f32) : FVec Ideal S16x1 .f32 :=
  fun j => newM (pm j) (scores q kc ks (j 0))
def stepL (q : FVec Ideal S1x2x8x128 .bf16) (kc : IVec S1x2x2048x128 8) (ks : FVec Ideal S1x2x2048 .f32)
    (pm pl : FVec Ideal S16x1 .f32) : FVec Ideal S16x1 .f32 :=
  fun j => newL (pm j) (pl j) (scores q kc ks (j 0))
def stepA (q : FVec Ideal S1x2x8x128 .bf16) (kc : IVec S1x2x2048x128 8) (ks : FVec Ideal S1x2x2048 .f32)
    (vc : IVec S1x2x2048x128 8) (vs : FVec Ideal S1x2x2048 .f32)
    (pm : FVec Ideal S16x1 .f32) (pa : FVec Ideal S16x128 .f32) : FVec Ideal S16x128 .f32 :=
  fun j => newA (pm (ix2 (j 0) 0)) (pa j) (scores q kc ks (j 0)) (fun k => deq vc vs (rowH (j 0)) k (j 1))

/-- What a batch starts from. -/
def resetM : FVec Ideal S16x1 .f32 := fun _ => ⊥
def resetL : FVec Ideal S16x1 .f32 := fun _ => 0
def resetA : FVec Ideal S16x128 .f32 := fun _ => 0

/-- The new token's row of a head, in the batch the point `i` belongs to: the buffer holds the heads batch by batch. -/
def tokRow (x : FVec Ideal S64x128 .f32) (i : grid0.Coords) (h : Fin 2) (d : Fin 128) : EReal :=
  x (ix2 ⟨(i 0).val * 2 + h.val, by have : (i 0).val < 32 := (i 0).isLt; omega⟩ d)

/-- The output block of a batch: `kn`, `vn` the new token's key and value rows of the batch's two heads. -/
def stepY (q : FVec Ideal S1x2x8x128 .bf16) (kn vn : Fin 2 → Fin 128 → EReal)
    (pm pl : FVec Ideal S16x1 .f32) (pa : FVec Ideal S16x128 .f32) : FVec Ideal S1x16x128 .f32 :=
  fun j => lastY (pm (ix2 (j 1) 0)) (pl (ix2 (j 1) 0)) (pa (ix2 (j 1) (j 2)))
    (score (fun d => q (ix4 0 (rowH (j 1)) (rowG (j 1)) d)) (kn (rowH (j 1)))) (vn (rowH (j 1)) (j 2))

end Cert.KernelIdeal.Attn
-- ==== Proof.Payloads.lean ====
/- What the body computes from the blocks it has read, one entry at a time: the scores of a head, and the maximum,
   normaliser, accumulator and output rows made of them. -/
module

public import proofs.«01_k».proof.Proof.Step
public import Idealize.ShloMosaic.Lib.Pipeline.ValueKit

@[expose] public section

set_option maxRecDepth 16384

noncomputable section

namespace Cert.KernelIdeal.Attn

open Idealize.ShloMosaic Idealize.ShloMosaic.TcCoe
open Cert.KernelIdeal.Gen

/-- Two stores that tile a buffer leave what they wrote, whatever was stored before them. -/
theorem canon_two {s : Shape} {e : EltTy} (p p' : View.Piece (Elt Ideal) s e) (L : List (View.Piece (Elt Ideal) s e))
    (h : ∀ y, ∃ r ∈ [p, p'], y ∈ r.1.set) (y : s.Idx) : View.canon (p :: p' :: L) y = View.canon [p, p'] y := by
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem _ _ hp, View.canon_cons_of_not_mem _ _ hp]
    have hp' : y ∈ p'.1.set := by
      obtain ⟨q, hq, hy⟩ := h y
      rcases List.mem_cons.mp hq with rfl | hq
      · exact absurd hy hp
      · rcases List.mem_cons.mp hq with rfl | hq
        · exact hy
        · exact absurd hq List.not_mem_nil
    obtain ⟨r, w⟩ := p'
    obtain ⟨x, rfl⟩ : ∃ x, r.emb x = y := r.exists_idx_of_mem hp'
    rw [View.canon_cons_emb, View.canon_cons_emb]

/-- A read over rows a store did not touch sees what was there before the store. -/
theorem readCov_skip {sp : Space} {s : Shape} {e : EltTy} (v : View sig .tc sp s e) {off size off' size' : Fin s.rank → Nat}
    {inb : ∀ a, off a + size a ≤ s.size a} {inb' : ∀ a, off' a + size' a ≤ s.size a}
    (w : (Rect.unit off size inb).shape.Idx → (Elt Ideal) e) (L : List (View.Piece (Elt Ideal) s e)) (a : Fin s.rank)
    (h : off a + size a ≤ off' a ∨ off' a + size' a ≤ off a) :
    v.readCov (⟨Rect.unit off size inb, w⟩ :: L) (Rect.unit off' size' inb').toLoadRect
      = v.readCov L (Rect.unit off' size' inb').toLoadRect :=
  View.readCov_cons_of_disjoint _ _ _ _ (Rect.unit_disjoint (inb := inb) (inb' := inb') a h)

/-- The pattern of minus infinity is the bottom of the extended reals. -/
theorem ofBits_neg_inf : Ideal.ofBits .f32 0xFF800000#32 = (⊥ : EReal) := by
  simp [Ideal.ofBits, Ideal.ieee]

variable (ks vs : FVec Ideal S1x2x2048 .f32) (ql : FVec Ideal S1x1x8x128 .bf16) (kl vl : IVec S1x1x2048x128 8)
  (ml ll : FVec Ideal S8x1 .f32) (al : FVec Ideal S8x128 .f32)

/-- A loaded row of cached codes dequantised by the scales of head `h`. -/
def deqL (kl : IVec S1x1x2048x128 8) (ks : FVec Ideal S1x2x2048 .f32) (h : Fin 2) (k : Fin 2048) (d : Fin 128) : EReal :=
  (((kl (ix4 0 0 k d)).toInt : ℝ) : EReal) * ks (ix3 0 h k)

/-- The scores of a loaded query head against a loaded key head. -/
def scoresL (ql : FVec Ideal S1x1x8x128 .bf16) (kl : IVec S1x1x2048x128 8) (ks : FVec Ideal S1x2x2048 .f32) (h : Fin 2)
    (g : Fin 8) (k : Fin 2048) : EReal :=
  score (fun d => ql (ix4 0 0 g d)) (deqL kl ks h k)

/-! ## Head 0 -/

theorem sc0_at (g : Fin 8) (k : Fin 2048) :
    k0_pay27 (F := Ideal) (k0_pay26 ks ql kl) (FloatOps.ofBits FTy.f32 0x3DB504F3#32) (ix2 g k) = scoresL ql kl ks 0 g k := by
  pointwise [k0_pay27, k0_pay26, k0_pay23, scoresL, score, scale, deqL]
  rfl

theorem v0_at (k : Fin 2048) (d : Fin 128) : k0_pay25 (F := Ideal) vs vl (ix2 k d) = deqL vl vs 0 k d := by
  pointwise [k0_pay25, k0_pay24, deqL]
  rfl

variable (v : FVec Ideal S8x2048 .f32) (e : EReal) (vb : FVec Ideal S2048x128 .bf16)

theorem m0_at (g : Fin 8) (z : Fin 1) :
    k0_pay28 (F := Ideal) v e ml (ix2 g z) = newM (ml (ix2 g z)) (fun k => k0_pay27 (F := Ideal) v e (ix2 g k)) := by
  pointwise [k0_pay28, newM, ofBits_neg_inf]

theorem sm0_at (g : Fin 8) (z : Fin 1) :
    k0_pay33 (F := Ideal) v e ml (ix2 g z) = newM (ml (ix2 g z)) (fun k => k0_pay27 (F := Ideal) v e (ix2 g k)) := by
  pointwise [k0_pay33, m0_at]

theorem l0_at (g : Fin 8) (z : Fin 1) :
    k0_pay31 (F := Ideal) v e ml ll (ix2 g z)
      = newL (ml (ix2 g 0)) (ll (ix2 g z)) (fun k => k0_pay27 (F := Ideal) v e (ix2 g k)) := by
  obtain rfl : z = 0 := Subsingleton.elim _ _
  pointwise [k0_pay31, k0_pay29, k0_pay30, m0_at, newL, alpha]

theorem a0_at (g : Fin 8) (d : Fin 128) :
    k0_pay32 (F := Ideal) vb v e ml al (ix2 g d)
      = newA (ml (ix2 g 0)) (al (ix2 g d)) (fun k => k0_pay27 (F := Ideal) v e (ix2 g k)) (fun k => vb (ix2 k d)) := by
  pointwise [k0_pay32, k0_pay29, k0_pay30, m0_at, newA, alpha]

/-! ## Head 1 -/

theorem sc1_at (g : Fin 8) (k : Fin 2048) :
    k0_pay35 (F := Ideal) (k0_pay23 ks) (k0_pay34 ql) kl (ix2 g k) = scoresL ql kl ks 1 g k := by
  pointwise [k0_pay35, k0_pay34, k0_pay23, scoresL, score, scale, deqL]
  rfl

variable (kt : FVec Ideal S2048x2 .f32) (qm : FVec Ideal S8x128 .bf16)

theorem m1_at (g : Fin 8) (z : Fin 1) :
    k0_pay36 (F := Ideal) kt qm kl ml (ix2 g z) = newM (ml (ix2 g z)) (fun k => k0_pay35 (F := Ideal) kt qm kl (ix2 g k)) := by
  pointwise [k0_pay36, newM, ofBits_neg_inf]

theorem l1_at (g : Fin 8) (z : Fin 1) :
    k0_pay39 (F := Ideal) kt qm kl ml ll (ix2 g z)
      = newL (ml (ix2 g 0)) (ll (ix2 g z)) (fun k => k0_pay35 (F := Ideal) kt qm kl (ix2 g k)) := by
  obtain rfl : z = 0 := Subsingleton.elim _ _
  pointwise [k0_pay39, k0_pay37, k0_pay38, m1_at, newL, alpha]

theorem a1_at (g : Fin 8) (d : Fin 128) :
    k0_pay40 (F := Ideal) kt (k0_pay24 vs) qm kl vl ml al (ix2 g d)
      = newA (ml (ix2 g 0)) (al (ix2 g d)) (fun k => k0_pay35 (F := Ideal) kt qm kl (ix2 g k)) (fun k => deqL vl vs 1 k d) := by
  pointwise [k0_pay40, k0_pay24, k0_pay37, k0_pay38, m1_at, newA, alpha, deqL]
  rfl

/-! ## The output rows -/

variable (kn vn : FVec Ideal S1x128 .f32)

theorem y0_at (g : Fin 8) (d : Fin 128) :
    k0_pay10 (F := Ideal) ql kn vn ml ll al (ix2 g d)
      = lastY (ml (ix2 g 0)) (ll (ix2 g 0)) (al (ix2 g d)) (score (fun d => ql (ix4 0 0 g d)) (fun d => kn (ix2 0 d))) (vn (ix2 0 d)) := by
  pointwise [k0_pay10, lastY, alpha, score, scale]

theorem y1_at (z : Fin 1) (g : Fin 8) (d : Fin 128) :
    k0_pay3 (F := Ideal) (k0_pay14 ql kn ml) (k0_pay16 ql kn ml ll) (k0_pay17 ql kn vn ml) al (ix3 z g d)
      = lastY (ml (ix2 g 0)) (ll (ix2 g 0)) (al (ix2 g d)) (score (fun d => ql (ix4 0 0 g d)) (fun d => kn (ix2 0 d))) (vn (ix2 0 d)) := by
  pointwise [k0_pay3, k0_pay12, k0_pay13, k0_pay14, k0_pay15, k0_pay16, k0_pay17, lastY, alpha, score, scale]

/-! ## A head's stored rows, from what was loaded

The loads are described by what they hold: a head of the query block, of the key and value blocks, and eight rows of
the running quantities. -/

section Heads

variable (q : FVec Ideal S1x2x8x128 .bf16) (kc vc : IVec S1x2x2048x128 8)
  (pm pl : FVec Ideal S16x1 .f32) (pa : FVec Ideal S16x128 .f32) (h : Fin 2) (row : Fin 8 → Fin 16)

theorem scoresL_eq (hH : ∀ g, rowH (row g) = h) (hG : ∀ g, rowG (row g) = g)
    (hq : ∀ g d, ql (ix4 0 0 g d) = q (ix4 0 h g d)) (hk : ∀ k d, kl (ix4 0 0 k d) = kc (ix4 0 h k d)) (g : Fin 8) :
    scoresL ql kl ks h g = scores q kc ks (row g) := by
  funext k
  unfold scoresL scores deqL deq
  simp only [hH, hG, hq, hk]

theorem deqL_eq (hH : ∀ g, rowH (row g) = h) (hv : ∀ k d, vl (ix4 0 0 k d) = vc (ix4 0 h k d)) (g : Fin 8) (d : Fin 128) :
    (fun k => deqL vl vs h k d) = fun k => deq vc vs (rowH (row g)) k d := by
  funext k
  unfold deqL deq
  simp only [hH, hv]

theorem head0_m (hq : ∀ g d, ql (ix4 0 0 g d) = q (ix4 0 0 g d)) (hk : ∀ k d, kl (ix4 0 0 k d) = kc (ix4 0 0 k d))
    (hm : ∀ g, ml (ix2 g 0) = pm (ix2 (row0 g) 0)) (g : Fin 8) (z : Fin 1) :
    k0_pay33 (F := Ideal) (k0_pay26 ks ql kl) (FloatOps.ofBits FTy.f32 0x3DB504F3#32) ml (ix2 g z)
      = stepM q kc ks pm (ix2 (row0 g) z) := by
  obtain rfl : z = 0 := Subsingleton.elim _ _
  rw [sm0_at, hm]; simp only [sc0_at]
  exact congrArg _ (scoresL_eq ks ql kl q kc 0 row0 rowH_row0 rowG_row0 hq hk g)

theorem head0_l (hq : ∀ g d, ql (ix4 0 0 g d) = q (ix4 0 0 g d)) (hk : ∀ k d, kl (ix4 0 0 k d) = kc (ix4 0 0 k d))
    (hm : ∀ g, ml (ix2 g 0) = pm (ix2 (row0 g) 0)) (hl : ∀ g, ll (ix2 g 0) = pl (ix2 (row0 g) 0)) (g : Fin 8) (z : Fin 1) :
    k0_pay31 (F := Ideal) (k0_pay26 ks ql kl) (FloatOps.ofBits FTy.f32 0x3DB504F3#32) ml ll (ix2 g z)
      = stepL q kc ks pm pl (ix2 (row0 g) z) := by
  obtain rfl : z = 0 := Subsingleton.elim _ _
  rw [l0_at, hm, hl]; simp only [sc0_at]
  exact congrArg _ (scoresL_eq ks ql kl q kc 0 row0 rowH_row0 rowG_row0 hq hk g)

theorem head0_a (hq : ∀ g d, ql (ix4 0 0 g d) = q (ix4 0 0 g d)) (hk : ∀ k d, kl (ix4 0 0 k d) = kc (ix4 0 0 k d))
    (hv : ∀ k d, vl (ix4 0 0 k d) = vc (ix4 0 0 k d))
    (hm : ∀ g, ml (ix2 g 0) = pm (ix2 (row0 g) 0)) (ha : ∀ g d, al (ix2 g d) = pa (ix2 (row0 g) d)) (g : Fin 8) (d : Fin 128) :
    k0_pay32 (F := Ideal) (k0_pay25 vs vl) (k0_pay26 ks ql kl) (FloatOps.ofBits FTy.f32 0x3DB504F3#32) ml al (ix2 g d)
      = stepA q kc ks vc vs pm pa (ix2 (row0 g) d) := by
  rw [a0_at, hm, ha]; simp only [sc0_at, v0_at]
  exact congrArg₂ _ (scoresL_eq ks ql kl q kc 0 row0 rowH_row0 rowG_row0 hq hk g) (deqL_eq vs vl vc 0 row0 rowH_row0 hv g d)

theorem head1_m (hq : ∀ g d, ql (ix4 0 0 g d) = q (ix4 0 1 g d)) (hk : ∀ k d, kl (ix4 0 0 k d) = kc (ix4 0 1 k d))
    (hm : ∀ g, ml (ix2 g 0) = pm (ix2 (row1 g) 0)) (g : Fin 8) (z : Fin 1) :
    k0_pay2 (F := Ideal) (k0_pay36 (k0_pay23 ks) (k0_pay34 ql) kl ml) (ix2 g z) = stepM q kc ks pm (ix2 (row1 g) z) := by
  obtain rfl : z = 0 := Subsingleton.elim _ _
  pointwise [k0_pay2]
  rw [m1_at, hm]; simp only [sc1_at]
  exact congrArg _ (scoresL_eq ks ql kl q kc 1 row1 rowH_row1 rowG_row1 hq hk g)

theorem head1_l (hq : ∀ g d, ql (ix4 0 0 g d) = q (ix4 0 1 g d)) (hk : ∀ k d, kl (ix4 0 0 k d) = kc (ix4 0 1 k d))
    (hm : ∀ g, ml (ix2 g 0) = pm (ix2 (row1 g) 0)) (hl : ∀ g, ll (ix2 g 0) = pl (ix2 (row1 g) 0)) (g : Fin 8) (z : Fin 1) :
    k0_pay39 (F := Ideal) (k0_pay23 ks) (k0_pay34 ql) kl ml ll (ix2 g z) = stepL q kc ks pm pl (ix2 (row1 g) z) := by
  obtain rfl : z = 0 := Subsingleton.elim _ _
  rw [l1_at, hm, hl]; simp only [sc1_at]
  exact congrArg _ (scoresL_eq ks ql kl q kc 1 row1 rowH_row1 rowG_row1 hq hk g)

theorem head1_a (hq : ∀ g d, ql (ix4 0 0 g d) = q (ix4 0 1 g d)) (hk : ∀ k d, kl (ix4 0 0 k d) = kc (ix4 0 1 k d))
    (hv : ∀ k d, vl (ix4 0 0 k d) = vc (ix4 0 1 k d))
    (hm : ∀ g, ml (ix2 g 0) = pm (ix2 (row1 g) 0)) (ha : ∀ g d, al (ix2 g d) = pa (ix2 (row1 g) d)) (g : Fin 8) (d : Fin 128) :
    k0_pay1 (F := Ideal) (k0_pay40 (k0_pay23 ks) (k0_pay24 vs) (k0_pay34 ql) kl vl ml al) (ix2 g d)
      = stepA q kc ks vc vs pm pa (ix2 (row1 g) d) := by
  pointwise [k0_pay1]
  rw [a1_at, hm, ha]; simp only [sc1_at]
  exact congrArg₂ _ (scoresL_eq ks ql kl q kc 1 row1 rowH_row1 rowG_row1 hq hk g) (deqL_eq vs vl vc 1 row1 rowH_row1 hv g d)

variable (KN VN : Fin 2 → Fin 128 → EReal)

theorem head0_y (hq : ∀ g d, ql (ix4 0 0 g d) = q (ix4 0 0 g d)) (hk : ∀ d, kn (ix2 0 d) = KN 0 d) (hv : ∀ d, vn (ix2 0 d) = VN 0 d)
    (hm : ∀ g, ml (ix2 g 0) = pm (ix2 (row0 g) 0)) (hl : ∀ g, ll (ix2 g 0) = pl (ix2 (row0 g) 0))
    (ha : ∀ g d, al (ix2 g d) = pa (ix2 (row0 g) d)) (z : Fin 1) (g : Fin 8) (d : Fin 128) :
    k0_pay11 (F := Ideal) (k0_pay10 ql kn vn ml ll al) (ix3 z g d) = stepY q KN VN pm pl pa (ix3 z (row0 g) d) := by
  pointwise [k0_pay11, y0_at, stepY, rowH_row0, rowG_row0, hq, hk, hv, hm, hl, ha]

theorem head1_y (hq : ∀ g d, ql (ix4 0 0 g d) = q (ix4 0 1 g d)) (hk : ∀ d, kn (ix2 0 d) = KN 1 d) (hv : ∀ d, vn (ix2 0 d) = VN 1 d)
    (hm : ∀ g, ml (ix2 g 0) = pm (ix2 (row1 g) 0)) (hl : ∀ g, ll (ix2 g 0) = pl (ix2 (row1 g) 0))
    (ha : ∀ g d, al (ix2 g d) = pa (ix2 (row1 g) d)) (z : Fin 1) (g : Fin 8) (d : Fin 128) :
    k0_pay3 (F := Ideal) (k0_pay14 ql kn ml) (k0_pay16 ql kn ml ll) (k0_pay17 ql kn vn ml) al (ix3 z g d)
      = stepY q KN VN pm pl pa (ix3 z (row1 g) d) := by
  rw [y1_at]
  pointwise [stepY, rowH_row1, rowG_row1, hq, hk, hv, hm, hl, ha]

end Heads

end Cert.KernelIdeal.Attn
-- ==== Proof.Quant.lean ====
/- The symmetric int8 quantisation of one row of 128 numbers: its scale, its codes, and what the codes stand for. -/
module

public import Idealize.ShloMosaic.Lib.Pointwise

@[expose] public section

noncomputable section

namespace Cert.Quant

open Idealize.ShloMosaic

/-- The largest absolute value of a row. -/
def amax (v : Fin 128 → EReal) : EReal := Finset.univ.fold max ⊥ fun k => FloatOps.absf (F := Ideal) (φ := .f32) (v k)

/-- The scale of a row: its largest absolute value over 127, one for a row of zeros. -/
def scale (v : Fin 128 → EReal) : EReal :=
  if amax v = 0 then 1 else Ideal.div (amax v) (Ideal.ofBits .f32 1123942400#32)

/-- An entry over the scale, rounded to the nearest whole number (ties to even) and clipped to [-127, 127]. -/
def clipped (v : Fin 128 → EReal) (d : Fin 128) : EReal :=
  min (Ideal.ofBits .f32 1123942400#32)
    (max (Ideal.ofBits .f32 3271426048#32) (Ideal.liftRound Ideal.roundHalfEven (Ideal.div (v d) (scale v))))

/-- The code of an entry: the clipped whole number as eight bits. -/
def code (v : Fin 128 → EReal) (d : Fin 128) : BitVec 8 := FloatOps.fptosi (F := Ideal) (φ := .f32) 8 (clipped v d)

/-- What the code of an entry stands for: the code times the scale. -/
def value (v : Fin 128 → EReal) (d : Fin 128) : EReal := (((code v d).toInt : ℝ) : EReal) * scale v

/-! ## The code by way of 32 bits -/

/-- The two bounds of the codes. -/
theorem hi_eq : Ideal.ofBits .f32 1123942400#32 = ((127 : ℝ) : EReal) := by
  simp [Ideal.ofBits, Ideal.ieee]
  norm_num
  rw [← EReal.coe_mul]
  norm_num
theorem lo_eq : Ideal.ofBits .f32 3271426048#32 = ((-127 : ℝ) : EReal) := by
  simp [Ideal.ofBits, Ideal.ieee]
  norm_num
  rw [← EReal.coe_mul]
  norm_num

/-- A number in `[-127, 127]` converted to 32 bits and cut to eight is the number converted to eight. -/
theorem cut_of_bounds (x : EReal) (h0 : ((-127 : ℝ) : EReal) ≤ x) (h1 : x ≤ ((127 : ℝ) : EReal)) :
    (Ideal.fptosi 32 x).setWidth 8 = Ideal.fptosi 8 x := by
  induction x with
  | bot => exact absurd h0 (not_le.mpr (EReal.bot_lt_coe _))
  | top => exact absurd h1 (not_le.mpr (EReal.coe_lt_top _))
  | coe r =>
    have a0 : (-127 : ℝ) ≤ r := by exact_mod_cast h0
    have a1 : r ≤ 127 := by exact_mod_cast h1
    obtain ⟨t, ht, b0, b1⟩ : ∃ t : ℤ, (if 0 ≤ r then ⌊r⌋ else ⌈r⌉) = t ∧ -127 ≤ t ∧ t ≤ 127 := by
      refine ⟨_, rfl, ?_, ?_⟩
      · split
        · exact Int.le_floor.mpr (by push_cast; linarith)
        · exact Int.le_ceil_iff.mpr (by push_cast; linarith)
      · split
        · exact Int.floor_le_iff.mpr (by push_cast; linarith)
        · exact Int.ceil_le.mpr (by push_cast; linarith)
    unfold Ideal.fptosi
    rw [Ideal.toIntClamped_coe, Ideal.toIntClamped_coe, ht]
    rw [show max (-((2 ^ (32 - 1) : ℕ) : ℤ)) (min (((2 ^ (32 - 1) : ℕ) : ℤ) - 1) t) = t from by norm_num; omega,
      show max (-((2 ^ (8 - 1) : ℕ) : ℤ)) (min (((2 ^ (8 - 1) : ℕ) : ℤ) - 1) t) = t from by norm_num; omega]
    apply BitVec.eq_of_toNat_eq
    simp only [BitVec.toNat_setWidth, BitVec.toNat_ofInt]
    omega

/-- The code, converted to 32 bits first. -/
theorem code_cut (v : Fin 128 → EReal) (d : Fin 128) : (Ideal.fptosi 32 (clipped v d)).setWidth 8 = code v d := by
  refine cut_of_bounds _ ?_ ?_
  · unfold clipped
    rw [hi_eq, lo_eq]
    exact le_min (EReal.coe_le_coe_iff.mpr (by norm_num)) (le_max_left _ _)
  · unfold clipped
    rw [hi_eq]
    exact min_le_left _ _

end Cert.Quant
-- ==== Proof.QuantK.lean ====
/- What the first point computes of the new token: its codes and scales, and its rows dequantised. -/
module

public import proofs.«01_k».proof.Proof.Payloads
public import proofs.«01_k».proof.Proof.Quant

@[expose] public section

set_option maxRecDepth 16384

noncomputable section

namespace Cert.KernelIdeal.Attn

open Idealize.ShloMosaic Idealize.ShloMosaic.TcCoe
open Cert.KernelIdeal.Gen

/-- The rows of the new token, one per batch and head. -/
def row (x : FVec Ideal S64x128 .f32) (r : Fin 64) (d : Fin 128) : EReal := x (ix2 r d)

/-- The codes, scales and dequantised entries of the new token's rows. -/
def qCodes (x : FVec Ideal S64x128 .f32) : IVec S64x128 8 := fun j => Quant.code (row x (j 0)) (j 1)
def qScales (x : FVec Ideal S64x128 .f32) : FVec Ideal S64x1 .f32 := fun j => Quant.scale (row x (j 0))
def qValues (x : FVec Ideal S64x128 .f32) : FVec Ideal S64x128 .f32 := fun j => Quant.value (row x (j 0)) (j 1)

theorem kscales_eq (x : FVec Ideal S64x128 .f32) : k0_pay5 (F := Ideal) x = qScales x := by
  funext j
  idx_vars j
  pointwise [k0_pay5, k0_pay4, ofBits_neg_inf, qScales, Quant.scale, Quant.amax, row]

theorem vscales_eq (x : FVec Ideal S64x128 .f32) : k0_pay8 (F := Ideal) x = qScales x := kscales_eq x

theorem kcodes_eq (x : FVec Ideal S64x128 .f32) : k0_pay6 (F := Ideal) x = qCodes x := by
  funext j
  idx_vars j
  pointwise [k0_pay6, k0_pay4, kscales_eq]
  rfl

theorem vcodes_eq (x : FVec Ideal S64x128 .f32) : k0_pay9 (F := Ideal) x = qCodes x := kcodes_eq x

theorem kdeq_eq (x : FVec Ideal S64x128 .f32) : k0_pay18 (F := Ideal) (qScales x) (qCodes x) = qValues x := by
  funext j
  idx_vars j
  pointwise [k0_pay18]
  rfl

theorem vdeq_eq (x : FVec Ideal S64x128 .f32) : k0_pay19 (F := Ideal) (qScales x) (qCodes x) = qValues x := kdeq_eq x

end Cert.KernelIdeal.Attn
-- ==== Proof.State.lean ====
/- What the kernel carries from one grid point to the next, and the pipeline's proof data: at each point the running
   maximum, sum and accumulator of the batch, the two buffers of the new token, and each window's contents. -/
module

public import proofs.«01_k».proof.Proof.GridFacts
public import proofs.«01_k».proof.Proof.QuantK
public import Idealize.ShloMosaic.Lib.Pipeline.TableIdle
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-! ## The blocks of the input windows -/

abbrev blkQ (t : Fin cfg0.N) : FVec Ideal S1x2x8x128 .bf16 := iblk m c 0 t
abbrev blkKn (t : Fin cfg0.N) : FVec Ideal S64x128 .f32 := iblk m c 1 t
abbrev blkVn (t : Fin cfg0.N) : FVec Ideal S64x128 .f32 := iblk m c 2 t
abbrev blkKc (t : Fin cfg0.N) : IVec S1x2x2048x128 8 := iblk m c 3 t
abbrev blkKs (t : Fin cfg0.N) : FVec Ideal S1x2x2048 .f32 := iblk m c 4 t
abbrev blkVc (t : Fin cfg0.N) : IVec S1x2x2048x128 8 := iblk m c 5 t
abbrev blkVs (t : Fin cfg0.N) : FVec Ideal S1x2x2048 .f32 := iblk m c 6 t

/-! ## The running quantities -/

/-- The running maximum, sum and accumulator. -/
abbrev Three := FVec Ideal S16x1 .f32 × FVec Ideal S16x1 .f32 × FVec Ideal S16x128 .f32

/-- What a batch starts from. -/
def start : Three := (resetM, resetL, resetA)

/-- One point folds its block into what it finds. -/
def fold (t : Fin cfg0.N) (p : Three) : Three :=
  (stepM (blkQ m c t) (blkKc m c t) (blkKs m c t) p.1,
   stepL (blkQ m c t) (blkKc m c t) (blkKs m c t) p.1 p.2.1,
   stepA (blkQ m c t) (blkKc m c t) (blkKs m c t) (blkVc m c t) (blkVs m c t) p.1 p.2.2)

/-- What a point leaves. -/
def st : (n : ℕ) → n < cfg0.N → Three
  | 0, h => fold m c ⟨0, h⟩ start
  | n + 1, h => fold m c ⟨n + 1, h⟩ (if (n + 1) % 8 = 0 then start else st n (Nat.lt_of_succ_lt h))

/-- The first point of a batch folds its block into the start. -/
theorem st_reset (t : Fin cfg0.N) (h : t.val % 8 = 0) : st m c t.val t.isLt = fold m c t start := by
  obtain ⟨n, hn⟩ := t
  cases n with
  | zero => rfl
  | succ n => simp only [st]; rw [if_pos h]

/-- Every other point folds its block into what the point before left. -/
theorem st_step (t : Fin cfg0.N) (h : ¬t.val % 8 = 0) :
    st m c t.val t.isLt = fold m c t (st m c (t.val - 1) (by omega)) := by
  obtain ⟨n, hn⟩ := t
  cases n with
  | zero => exact absurd (Nat.zero_mod _) h
  | succ n => simp only [st]; rw [if_neg h]; rfl

/-- The grid's first point. -/
def p0 : Fin cfg0.N := ⟨0, by decide⟩

/-- The new token's keys and values, dequantised. -/
def kNew : FVec Ideal S64x128 .f32 := qValues (blkKn m c p0)
def vNew : FVec Ideal S64x128 .f32 := qValues (blkVn m c p0)

/-- The output block a point would store: the softmax average after its block and the new token. -/
def yAt (t : Fin cfg0.N) : FVec Ideal S1x16x128 .f32 :=
  stepY (blkQ m c t) (tokRow (kNew m c) (grid0.coords t)) (tokRow (vNew m c) (grid0.coords t))
    (st m c t.val t.isLt).1 (st m c t.val t.isLt).2.1 (st m c t.val t.isLt).2.2

/-! ## The invariant between points -/

/-- The five scratch buffers at given contents, and the generator register at some state. -/
abbrev scratches (x : Three) : sProp 𝕄 :=
  iprop(iprop(owns (c : Thread nD τ) scM0_0 fullShare x.1 ∗ owns (c : Thread nD τ) scM0_1 fullShare x.2.1
    ∗ owns (c : Thread nD τ) scM0_2 fullShare x.2.2 ∗ owns (c : Thread nD τ) scM0_3 fullShare (kNew m c)
    ∗ owns (c : Thread nD τ) scM0_4 fullShare (vNew m c)) ∗ (∃ r, prngReg c r))

/-- Before the first point the scratch buffers hold anything; afterwards what the point before left. -/
def PhiS : (n : ℕ) → n ≤ cfg0.N → sProp 𝕄
  | 0, _ => Pipeline.ΦA spec0 c
  | n + 1, hn => scratches m c (st m c n hn)

theorem PhiS_zero (n : ℕ) (h : n ≤ cfg0.N) (hz : n = 0) : PhiS m c n h = Pipeline.ΦA spec0 c := by
  subst hz; rfl

theorem PhiS_succ (n : ℕ) (hn : n < cfg0.N) : PhiS m c (n + 1) hn = scratches m c (st m c n hn) := rfl

theorem PhiS_pos (n : ℕ) (h : n ≤ cfg0.N) (hz : n ≠ 0) : PhiS m c n h = scratches m c (st m c (n - 1) (by omega)) := by
  cases n with
  | zero => exact absurd rfl hz
  | succ n => rfl

/-! ## The proof data -/

/-- The arrays as the region finds them; after the body at a point each input's buffer at its block, the attention
    output at `yAt`, the quantised new token at its codes and scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => qCodes (blkKn m c p0)
    | ⟨9, _⟩ => qScales (blkKn m c p0)
    | ⟨10, _⟩ => qCodes (blkVn m c p0)
    | ⟨11, _⟩ => qScales (blkVn m c p0)
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = yAt m c t := by dsimp only [dats]
theorem after0_8 (t : Fin cfg0.N) : (dats m 0 c).after 8 t = qCodes (blkKn m c p0) := by dsimp only [dats]
theorem after0_9 (t : Fin cfg0.N) : (dats m 0 c).after 9 t = qScales (blkKn m c p0) := by dsimp only [dats]
theorem after0_10 (t : Fin cfg0.N) : (dats m 0 c).after 10 t = qCodes (blkVn m c p0) := by dsimp only [dats]
theorem after0_11 (t : Fin cfg0.N) : (dats m 0 c).after 11 t = qScales (blkVn m c p0) := by dsimp only [dats]

/-- Each input's buffer holds its block at every point. -/
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d

/-! ## What each window is left at -/

/-- An input window is left at its block. -/
theorem leaves0 (t : Fin cfg0.N) : (dats m 0 c).leavesExact 0 t = owns (c : Thread nD τ) (ms0_0 t) fullShare (iblk m c 0 t) := by
  rw [← after0_0 m c t]
theorem leaves1 (t : Fin cfg0.N) : (dats m 0 c).leavesExact 1 t = owns (c : Thread nD τ) (ms0_1 t) fullShare (iblk m c 1 t) := by
  rw [← after0_1 m c t]
theorem leaves2 (t : Fin cfg0.N) : (dats m 0 c).leavesExact 2 t = owns (c : Thread nD τ) (ms0_2 t) fullShare (iblk m c 2 t) := by
  rw [← after0_2 m c t]
theorem leaves3 (t : Fin cfg0.N) : (dats m 0 c).leavesExact 3 t = owns (c : Thread nD τ) (ms0_3 t) fullShare (iblk m c 3 t) := by
  rw [← after0_3 m c t]
theorem leaves4 (t : Fin cfg0.N) : (dats m 0 c).leavesExact 4 t = owns (c : Thread nD τ) (ms0_4 t) fullShare (iblk m c 4 t) := by
  rw [← after0_4 m c t]
theorem leaves5 (t : Fin cfg0.N) : (dats m 0 c).leavesExact 5 t = owns (c : Thread nD τ) (ms0_5 t) fullShare (iblk m c 5 t) := by
  rw [← after0_5 m c t]
theorem leaves6 (t : Fin cfg0.N) : (dats m 0 c).leavesExact 6 t = owns (c : Thread nD τ) (ms0_6 t) fullShare (iblk m c 6 t) := by
  rw [← after0_6 m c t]

/-- The attention output is stored at a batch's last point and handed back as found at the others. -/
theorem leaves7_last (t : Fin cfg0.N) (h : t.val % 8 = 7) :
    (dats m 0 c).leavesExact 7 t = owns (c : Thread nD τ) (ms0_7 t) fullShare (yAt m c t) := by
  rw [← after0_7 m c t]; unfold Dat.leavesExact
  rw [show cfg0.idle 7 (cfg0.grid.coords t) = false from (idle0_7 t).trans (by simp [h])]

theorem leaves7_rest (t : Fin cfg0.N) (h : ¬t.val % 8 = 7) :
    (dats m 0 c).leavesExact 7 t = iprop(∃ d, owns (c : Thread nD τ) (ms0_7 t) fullShare ((dats m 0 c).before 7 t d)) :=
  (dats m 0 c).leavesExact_idle 7 t ((idle0_7 t).trans (by simp [h]))
    (by rw [← Bool.not_eq_true]; exact fun e => h ((flush0_7 t).mp e))

/-- A window stored at the first point only and written back at the last is stale at no point between. -/
theorem fresh_false (w : Fin cfg0.W) (hfl : ∀ t : Fin cfg0.N, (cfg0.win w).flush t = true ↔ t.val % 256 = 255)
    (hid : ∀ t : Fin cfg0.N, cfg0.idle w (grid0.coords t) = !(decide (t.val % 256 = 0))) :
    ∀ n, n < cfg0.N → n ≠ 0 → cfg0.fresh w n = false
  | 0, _, h => absurd rfl h
  | n + 1, hn, _ => by
    have hN : n + 1 < 256 := lt_of_lt_of_eq hn N_0
    have hn' : n < cfg0.N := Nat.lt_of_succ_lt hn
    have e1 : (cfg0.win w).flush ⟨n, hn'⟩ = false := by
      rw [← Bool.not_eq_true]; intro e
      have := (hfl ⟨n, hn'⟩).mp e
      simp only at this; omega
    have e2 : cfg0.idle w (cfg0.grid.coords ⟨n, hn'⟩) = !(decide (n % 256 = 0)) := hid ⟨n, hn'⟩
    rw [Cfg.fresh_succ _ _ _ hn', e1, e2]
    by_cases hz : n = 0
    · subst hz; rfl
    · rw [fresh_false w hfl hid n hn' hz]; simp

/-- Such a window, handed back as found at a later point, is left at what the first point stored. -/
theorem leaves_kept (w : Fin cfg0.W) (hw : (cfg0.win w).isOut = true)
    (hclip : ∀ (i : cfg0.grid.Coords) a, (cfg0.win w).clip i a = none)
    (hfl : ∀ t : Fin cfg0.N, (cfg0.win w).flush t = true ↔ t.val % 256 = 255)
    (hid : ∀ t : Fin cfg0.N, cfg0.idle w (grid0.coords t) = !(decide (t.val % 256 = 0)))
    (hafter : ∀ t t', (dats m 0 c).after w t = (dats m 0 c).after w t') (t : Fin cfg0.N) (h : ¬t.val % 256 = 0) :
    iprop(∃ d, owns (c : Thread nD τ) ((cfg0.win w).stage (cfg0.slots t w)) fullShare ((dats m 0 c).before w t d))
      ⊢ (dats m 0 c).leavesExact w t := by
  have hi : cfg0.idle w (cfg0.grid.coords t) = true := (hid t).trans (by simp [h])
  cases hf : (cfg0.win w).flush t with
  | false => rw [(dats m 0 c).leavesExact_idle w t hi hf]
  | true =>
    have hz : t.val ≠ 0 := fun e => h (by rw [e])
    have e : ∀ d, (dats m 0 c).before w t d = (dats m 0 c).after w t := fun d => by
      rw [Dat.before_out_traj (dats m 0 c) w hw hclip (fun _ _ _ _ => hafter _ _) t.val t rfl d,
        fresh_false w hfl hid t.val t.isLt hz, if_neg Bool.false_ne_true]
      exact hafter _ _
    unfold Dat.leavesExact
    rw [hi, hf]
    iintro ⟨%d, H⟩
    rw [e d]
    iexact H

/-- At the first point it is left at what that point stores. -/
theorem leaves_first (w : Fin cfg0.W)
    (hid : ∀ t : Fin cfg0.N, cfg0.idle w (grid0.coords t) = !(decide (t.val % 256 = 0))) (t : Fin cfg0.N) (h : t.val % 256 = 0) :
    (dats m 0 c).leavesExact w t
      = owns (c : Thread nD τ) ((cfg0.win w).stage (cfg0.slots t w)) fullShare ((dats m 0 c).after w t) := by
  unfold Dat.leavesExact
  rw [show cfg0.idle w (cfg0.grid.coords t) = false from (hid t).trans (by simp [h])]

theorem kept8 (t : Fin cfg0.N) (h : ¬t.val % 256 = 0) :
    iprop(∃ d, owns (c : Thread nD τ) (ms0_8 t) fullShare ((dats m 0 c).before 8 t d)) ⊢ (dats m 0 c).leavesExact 8 t :=
  leaves_kept m c 8 rfl (fun _ _ => rfl) flush0_8 idle0_8 (fun t t' => by rw [after0_8, after0_8]) t h
theorem kept9 (t : Fin cfg0.N) (h : ¬t.val % 256 = 0) :
    iprop(∃ d, owns (c : Thread nD τ) (ms0_9 t) fullShare ((dats m 0 c).before 9 t d)) ⊢ (dats m 0 c).leavesExact 9 t :=
  leaves_kept m c 9 rfl (fun _ _ => rfl) flush0_9 idle0_9 (fun t t' => by rw [after0_9, after0_9]) t h
theorem kept10 (t : Fin cfg0.N) (h : ¬t.val % 256 = 0) :
    iprop(∃ d, owns (c : Thread nD τ) (ms0_10 t) fullShare ((dats m 0 c).before 10 t d)) ⊢ (dats m 0 c).leavesExact 10 t :=
  leaves_kept m c 10 rfl (fun _ _ => rfl) flush0_10 idle0_10 (fun t t' => by rw [after0_10, after0_10]) t h
theorem kept11 (t : Fin cfg0.N) (h : ¬t.val % 256 = 0) :
    iprop(∃ d, owns (c : Thread nD τ) (ms0_11 t) fullShare ((dats m 0 c).before 11 t d)) ⊢ (dats m 0 c).leavesExact 11 t :=
  leaves_kept m c 11 rfl (fun _ _ => rfl) flush0_11 idle0_11 (fun t t' => by rw [after0_11, after0_11]) t h

theorem first8 (t : Fin cfg0.N) (h : t.val % 256 = 0) :
    (dats m 0 c).leavesExact 8 t = owns (c : Thread nD τ) (ms0_8 t) fullShare (qCodes (blkKn m c p0)) := by
  rw [← after0_8 m c t]; exact leaves_first m c 8 idle0_8 t h
theorem first9 (t : Fin cfg0.N) (h : t.val % 256 = 0) :
    (dats m 0 c).leavesExact 9 t = owns (c : Thread nD τ) (ms0_9 t) fullShare (qScales (blkKn m c p0)) := by
  rw [← after0_9 m c t]; exact leaves_first m c 9 idle0_9 t h
theorem first10 (t : Fin cfg0.N) (h : t.val % 256 = 0) :
    (dats m 0 c).leavesExact 10 t = owns (c : Thread nD τ) (ms0_10 t) fullShare (qCodes (blkVn m c p0)) := by
  rw [← after0_10 m c t]; exact leaves_first m c 10 idle0_10 t h
theorem first11 (t : Fin cfg0.N) (h : t.val % 256 = 0) :
    (dats m 0 c).leavesExact 11 t = owns (c : Thread nD τ) (ms0_11 t) fullShare (qScales (blkVn m c p0)) := by
  rw [← after0_11 m c t]; exact leaves_first m c 11 idle0_11 t h

end Cert.KernelIdeal.Attn
-- ==== Proof.RunStep.lean ====
/- The run of the kernel's body at a point that only takes one block of the cache. -/
module

public import proofs.«01_k».proof.Proof.GridFacts

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)

-- the proof term of a whole body is large
set_option maxHeartbeats 1200000 in
/-- A block in the middle of a batch: the running maximum, normaliser and accumulator are read, the block is folded in for both heads, and they are stored back. The lists are what is stored. -/
noncomputable def runStep
   (hc0 : ¬cond0_0 i) (hc1 : ¬cond0_1 i) (hc2 : ¬cond0_2 i)
    (x2 : Vec F S1x2x8x128 .bf16) (x5 : Vec F S1x2x2048x128 .i8) (x6 : Vec F S1x2x2048 .f32) (x7 : Vec F S1x2x2048x128 .i8) (x8 : Vec F S1x2x2048 .f32) (x14 : Vec F S16x1 .f32) (x15 : Vec F S16x1 .f32) (x16 : Vec F S16x128 .f32) :
    Σ' (L14 : List (View.Piece (Elt F) S16x1 .f32)), Σ' (L15 : List (View.Piece (Elt F) S16x1 .f32)), { L16 : List (View.Piece (Elt F) S16x128 .f32) //
      ∀ (E : Set ℕ) (K : PUnit → sProp 𝕄),
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg14 fullShare x14
          ∗ owns (c : Thread nD τ) arg15 fullShare x15
          ∗ owns (c : Thread nD τ) arg16 fullShare x16
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)) -∗ K PUnit.unit))
      ⊢ wp frame (wpE (defs₀ (F := F)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__attn_eq_skeleton]; unfold cc0__attn_skel
    simp only [k0_part4_eq_skeleton, k0_part5_eq_skeleton, k0_part6_eq_skeleton]
    unfold owns
    iintro ⟨⟨%f2, %hf2, H2⟩, ⟨%f5, %hf5, H5⟩, ⟨%f6, %hf6, H6⟩, ⟨%f7, %hf7, H7⟩, ⟨%f8, %hf8, H8⟩, ⟨%f14, %hf14, H14⟩, ⟨%f15, %hf15, H15⟩, ⟨%f16, %hf16, H16⟩, Hk⟩
    obtain rfl := harg2.eq_unread hf2
    obtain rfl := harg5.eq_unread hf5
    obtain rfl := harg6.eq_unread hf6
    obtain rfl := harg7.eq_unread hf7
    obtain rfl := harg8.eq_unread hf8
    obtain rfl := harg14.eq_unread hf14
    obtain rfl := harg15.eq_unread hf15
    obtain rfl := harg16.eq_unread hf16
    sl_exec (disch := first | sl_exact hc0 | sl_exact hc1 | sl_exact hc2)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]; · iexists _; iexact H14
    isplitl [H15]; · iexists _; iexact H15
    iexists _; iexact H16

end Cert.KernelIdeal.Attn
-- ==== Proof.RunLast.lean ====
/- The run of the kernel's body at the last block of a batch. -/
module

public import proofs.«01_k».proof.Proof.RunStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)

-- the proof term of a whole body is large
set_option maxHeartbeats 1200000 in
/-- The last block of a batch: the block is folded in, then the new token (a row of each of the two buffers that hold it dequantised) and the output is stored. The lists are what is stored. -/
noncomputable def runLast
   (hc0 : ¬cond0_0 i) (hc1 : ¬cond0_1 i) (hc2 : cond0_2 i)
    (x2 : Vec F S1x2x8x128 .bf16) (x5 : Vec F S1x2x2048x128 .i8) (x6 : Vec F S1x2x2048 .f32) (x7 : Vec F S1x2x2048x128 .i8) (x8 : Vec F S1x2x2048 .f32) (x17 : Vec F S64x128 .f32) (x18 : Vec F S64x128 .f32) (x14 : Vec F S16x1 .f32) (x15 : Vec F S16x1 .f32) (x16 : Vec F S16x128 .f32) :
    Σ' (L9 : List (View.Piece (Elt F) S1x16x128 .f32)), Σ' (L14 : List (View.Piece (Elt F) S16x1 .f32)), Σ' (L15 : List (View.Piece (Elt F) S16x1 .f32)), { L16 : List (View.Piece (Elt F) S16x128 .f32) //
      ∀ (E : Set ℕ) (K : PUnit → sProp 𝕄),
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg17 fullShare x17
          ∗ owns (c : Thread nD τ) arg18 fullShare x18
          ∗ (∃ d, owns (c : Thread nD τ) arg9 fullShare d)
          ∗ owns (c : Thread nD τ) arg14 fullShare x14
          ∗ owns (c : Thread nD τ) arg15 fullShare x15
          ∗ owns (c : Thread nD τ) arg16 fullShare x16
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg17 fullShare x17
              ∗ owns (c : Thread nD τ) arg18 fullShare x18
              ∗ (∃ f, arg9.view.loc (c : Thread nD τ) ↦[arg9.view.set]{fullShare} arg9.view.writes (Elt F) f L9)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)) -∗ K PUnit.unit))
      ⊢ wp frame (wpE (defs₀ (F := F)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__attn_eq_skeleton]; unfold cc0__attn_skel
    simp only [k0_part4_eq_skeleton, k0_part5_eq_skeleton, k0_part6_eq_skeleton, k0_part2_eq_skeleton, k0_part3_eq_skeleton]
    unfold owns
    iintro ⟨⟨%f2, %hf2, H2⟩, ⟨%f5, %hf5, H5⟩, ⟨%f6, %hf6, H6⟩, ⟨%f7, %hf7, H7⟩, ⟨%f8, %hf8, H8⟩, ⟨%f17, %hf17, H17⟩, ⟨%f18, %hf18, H18⟩, ⟨%d9, %f9, -, H9⟩, ⟨%f14, %hf14, H14⟩, ⟨%f15, %hf15, H15⟩, ⟨%f16, %hf16, H16⟩, Hk⟩
    obtain rfl := harg2.eq_unread hf2
    obtain rfl := harg5.eq_unread hf5
    obtain rfl := harg6.eq_unread hf6
    obtain rfl := harg7.eq_unread hf7
    obtain rfl := harg8.eq_unread hf8
    obtain rfl := harg17.eq_unread hf17
    obtain rfl := harg18.eq_unread hf18
    obtain rfl := harg14.eq_unread hf14
    obtain rfl := harg15.eq_unread hf15
    obtain rfl := harg16.eq_unread hf16
    sl_exec (disch := first | sl_exact hc0 | sl_exact hc1 | sl_exact hc2)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H17]
    · iexists _; isplitr; · ipureintro; exact harg17.read_unread _
      iexact H17
    isplitl [H18]
    · iexists _; isplitr; · ipureintro; exact harg18.read_unread _
      iexact H18
    isplitl [H9]; · iexists _; iexact H9
    isplitl [H14]; · iexists _; iexact H14
    isplitl [H15]; · iexists _; iexact H15
    iexists _; iexact H16

end Cert.KernelIdeal.Attn
-- ==== Proof.RunReset.lean ====
/- The run of the kernel's body at the first block of a later batch. -/
module

public import proofs.«01_k».proof.Proof.RunLast

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)

-- the proof term of a whole body is large
set_option maxHeartbeats 1200000 in
/-- The first block of a batch other than the first: the running values are reset, then the block is folded in. The lists are what is stored. -/
noncomputable def runReset
   (hc0 : ¬cond0_0 i) (hc1 : cond0_1 i) (hc2 : ¬cond0_2 i)
    (x2 : Vec F S1x2x8x128 .bf16) (x5 : Vec F S1x2x2048x128 .i8) (x6 : Vec F S1x2x2048 .f32) (x7 : Vec F S1x2x2048x128 .i8) (x8 : Vec F S1x2x2048 .f32) :
    Σ' (L14 : List (View.Piece (Elt F) S16x1 .f32)), Σ' (L15 : List (View.Piece (Elt F) S16x1 .f32)), { L16 : List (View.Piece (Elt F) S16x128 .f32) //
      ∀ (E : Set ℕ) (K : PUnit → sProp 𝕄),
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)) -∗ K PUnit.unit))
      ⊢ wp frame (wpE (defs₀ (F := F)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__attn_eq_skeleton]; unfold cc0__attn_skel
    simp only [k0_part4_eq_skeleton, k0_part5_eq_skeleton, k0_part6_eq_skeleton]
    unfold owns
    iintro ⟨⟨%f2, %hf2, H2⟩, ⟨%f5, %hf5, H5⟩, ⟨%f6, %hf6, H6⟩, ⟨%f7, %hf7, H7⟩, ⟨%f8, %hf8, H8⟩, ⟨%d14, %f14, -, H14⟩, ⟨%d15, %f15, -, H15⟩, ⟨%d16, %f16, -, H16⟩, Hk⟩
    obtain rfl := harg2.eq_unread hf2
    obtain rfl := harg5.eq_unread hf5
    obtain rfl := harg6.eq_unread hf6
    obtain rfl := harg7.eq_unread hf7
    obtain rfl := harg8.eq_unread hf8
    sl_exec (disch := first | sl_exact hc0 | sl_exact hc1 | sl_exact hc2)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]; · iexists _; iexact H14
    isplitl [H15]; · iexists _; iexact H15
    iexists _; iexact H16

end Cert.KernelIdeal.Attn
-- ==== Proof.RunFirst.lean ====
/- The run of the kernel's body at the very first point. -/
module

public import proofs.«01_k».proof.Proof.RunReset

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)

-- the proof term of a whole body is large
set_option maxHeartbeats 1200000 in
/-- The first point: the new token is quantised and kept dequantised, the running values are reset, and the first block is folded in. The lists are what is stored. -/
noncomputable def runFirst
   (hc0 : cond0_0 i) (hc1 : cond0_1 i) (hc2 : ¬cond0_2 i)
    (x2 : Vec F S1x2x8x128 .bf16) (x3 : Vec F S64x128 .f32) (x4 : Vec F S64x128 .f32) (x5 : Vec F S1x2x2048x128 .i8) (x6 : Vec F S1x2x2048 .f32) (x7 : Vec F S1x2x2048x128 .i8) (x8 : Vec F S1x2x2048 .f32) :
    Σ' (L10 : List (View.Piece (Elt F) S64x128 .i8)), Σ' (L11 : List (View.Piece (Elt F) S64x1 .f32)), Σ' (L12 : List (View.Piece (Elt F) S64x128 .i8)), Σ' (L13 : List (View.Piece (Elt F) S64x1 .f32)), Σ' (L14 : List (View.Piece (Elt F) S16x1 .f32)), Σ' (L15 : List (View.Piece (Elt F) S16x1 .f32)), Σ' (L16 : List (View.Piece (Elt F) S16x128 .f32)), Σ' (L17 : List (View.Piece (Elt F) S64x128 .f32)), { L18 : List (View.Piece (Elt F) S64x128 .f32) //
      ∀ (E : Set ℕ) (K : PUnit → sProp 𝕄),
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ (∃ f, arg10.view.loc (c : Thread nD τ) ↦[arg10.view.set]{fullShare} arg10.view.writes (Elt F) f L10)
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ (∃ f, arg18.view.loc (c : Thread nD τ) ↦[arg18.view.set]{fullShare} arg18.view.writes (Elt F) f L18)) -∗ K PUnit.unit))
      ⊢ wp frame (wpE (defs₀ (F := F)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun E K => ?run⟩
  case run =>
    simp only [cc0__attn_eq_skeleton]; unfold cc0__attn_skel
    simp only [k0_part4_eq_skeleton, k0_part1_eq_skeleton, k0_part5_eq_skeleton, k0_part6_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Attn
-- ==== Proof.ValFirst.lean ====
/- What the very first point stores: the quantised new token, and a block's step from the reset quantities. -/
module

public import proofs.«01_k».proof.Proof.RunFirst
public import proofs.«01_k».proof.Proof.QuantK
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)
  (hc0 : cond0_0 i) (hc1 : cond0_1 i) (hc2 : ¬cond0_2 i)
  (x2 : FVec Ideal S1x2x8x128 .bf16) (x3 : FVec Ideal S64x128 .f32) (x4 : FVec Ideal S64x128 .f32) (x5 : IVec S1x2x2048x128 8) (x6 : FVec Ideal S1x2x2048 .f32) (x7 : IVec S1x2x2048x128 8) (x8 : FVec Ideal S1x2x2048 .f32)
include hc0 hc1 hc2

theorem runFirst_10 (f : arg10.view.ty.Contents (Elt Ideal)) :
    arg10.view.read (Elt Ideal) (arg10.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).1)
      = qCodes x3 := by
  refine (View.read_writes_eq_canon _ _ _ (View.cover_of_wholeMem _ (by sl_whole_mem))).trans ?_
  funext j
  frame_out
  rw [kcodes_eq]

theorem runFirst_11 (f : arg11.view.ty.Contents (Elt Ideal)) :
    arg11.view.read (Elt Ideal) (arg11.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.1)
      = qScales x3 := by
  refine (View.read_writes_eq_canon _ _ _ (View.cover_of_wholeMem _ (by sl_whole_mem))).trans ?_
  funext j
  frame_out
  rw [kscales_eq]

theorem runFirst_12 (f : arg12.view.ty.Contents (Elt Ideal)) :
    arg12.view.read (Elt Ideal) (arg12.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.1)
      = qCodes x4 := by
  refine (View.read_writes_eq_canon _ _ _ (View.cover_of_wholeMem _ (by sl_whole_mem))).trans ?_
  funext j
  frame_out
  rw [vcodes_eq]

theorem runFirst_13 (f : arg13.view.ty.Contents (Elt Ideal)) :
    arg13.view.read (Elt Ideal) (arg13.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.1)
      = qScales x4 := by
  refine (View.read_writes_eq_canon _ _ _ (View.cover_of_wholeMem _ (by sl_whole_mem))).trans ?_
  funext j
  frame_out
  rw [vscales_eq]

theorem runFirst_14 (f : arg14.view.ty.Contents (Elt Ideal)) :
    arg14.view.read (Elt Ideal) (arg14.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.1)
      = stepM x2 x5 x6 resetM := by
  refine (View.read_writes_eq_canon _ _ _ (View.cover_of_wholeMem _ (by sl_whole_mem))).trans ?_
  funext j
  frame_out
  idx_vars j
  refine (canon_two _ _ _ (View.cover_of_tiledL _ ![8, 1] (by sl_kernel_rfl)) _).trans ?_
  canon_tiles x h
  case piece0 =>
    idx_vars x
    obtain rfl : j0 = row1 x0 := Fin.ext h0
    obtain rfl : j1 = x1 := Fin.ext h1
    exact head1_m _ _ _ _ _ _ _ (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) _ _
  case piece1 =>
    idx_vars x
    obtain rfl : j0 = row0 x0 := Fin.ext h0
    obtain rfl : j1 = x1 := Fin.ext h1
    exact head0_m _ _ _ _ _ _ _ (fun _ _ => by pointwise) (fun _ _ => by pointwise) (fun _ => by rw [View.readCov_eq_canon']; simp (disch := decide) only [View.canon_cons_unit_lit']; pointwise [k0_pay20, k0_pay21, resetM, resetL, ofBits_neg_inf]) _ _

theorem runFirst_15 (f : arg15.view.ty.Contents (Elt Ideal)) :
    arg15.view.read (Elt Ideal) (arg15.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.2.1)
      = stepL x2 x5 x6 resetM resetL := by
  refine (View.read_writes_eq_canon _ _ _ (View.cover_of_wholeMem _ (by sl_whole_mem))).trans ?_
  funext j
  frame_out
  idx_vars j
  refine (canon_two _ _ _ (View.cover_of_tiledL _ ![8, 1] (by sl_kernel_rfl)) _).trans ?_
  canon_tiles x h
  case piece0 =>
    idx_vars x
    obtain rfl : j0 = row1 x0 := Fin.ext h0
    obtain rfl : j1 = x1 := Fin.ext h1
    exact head1_l _ _ _ _ _ _ _ _ _ (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) (fun _ => by rw [readCov_skip _ _ _ 0 (by decide), View.readCov_eq_canon']; simp (disch := decide) only [View.canon_cons_unit_lit']; pointwise [k0_pay20, k0_pay21, resetM, resetL, ofBits_neg_inf]) _ _
  case piece1 =>
    idx_vars x
    obtain rfl : j0 = row0 x0 := Fin.ext h0
    obtain rfl : j1 = x1 := Fin.ext h1
    exact head0_l _ _ _ _ _ _ _ _ _ (fun _ _ => by pointwise) (fun _ _ => by pointwise) (fun _ => by rw [View.readCov_eq_canon']; simp (disch := decide) only [View.canon_cons_unit_lit']; pointwise [k0_pay20, k0_pay21, resetM, resetL, ofBits_neg_inf]) (fun _ => by rw [View.readCov_eq_canon']; simp (disch := decide) only [View.canon_cons_unit_lit']; pointwise [k0_pay20, k0_pay21, resetM, resetL, ofBits_neg_inf]) _ _

theorem runFirst_16 (f : arg16.view.ty.Contents (Elt Ideal)) :
    arg16.view.read (Elt Ideal) (arg16.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.2.2.1)
      = stepA x2 x5 x6 x7 x8 resetM resetA := by
  refine (View.read_writes_eq_canon _ _ _ (View.cover_of_wholeMem _ (by sl_whole_mem))).trans ?_
  funext j
  frame_out
  idx_vars j
  refine (canon_two _ _ _ (View.cover_of_tiledL _ ![8, 128] (by sl_kernel_rfl)) _).trans ?_
  canon_tiles x h
  case piece0 =>
    idx_vars x
    obtain rfl : j0 = row1 x0 := Fin.ext h0
    obtain rfl : j1 = x1 := Fin.ext h1
    exact head1_a _ _ _ _ _ _ _ _ _ _ _ _ (fun _ _ => by pointwise) (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) (fun _ _ => by rw [readCov_skip _ _ _ 0 (by decide), View.readCov_eq_canon']; simp (disch := decide) only [View.canon_cons_unit_lit']; pointwise [k0_pay22, resetA]) _ _
  case piece1 =>
    idx_vars x
    obtain rfl : j0 = row0 x0 := Fin.ext h0
    obtain rfl : j1 = x1 := Fin.ext h1
    exact head0_a _ _ _ _ _ _ _ _ _ _ _ _ (fun _ _ => by pointwise) (fun _ _ => by pointwise) (fun _ _ => by pointwise) (fun _ => by rw [View.readCov_eq_canon']; simp (disch := decide) only [View.canon_cons_unit_lit']; pointwise [k0_pay20, k0_pay21, resetM, resetL, ofBits_neg_inf]) (fun _ _ => by rw [View.readCov_eq_canon']; simp (disch := decide) only [View.canon_cons_unit_lit']; pointwise [k0_pay22, resetA]) _ _

theorem runFirst_17 (f : arg17.view.ty.Contents (Elt Ideal)) :
    arg17.view.read (Elt Ideal) (arg17.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.2.2.2.1)
      = qValues x3 := by
  refine (View.read_writes_eq_canon _ _ _ (View.cover_of_wholeMem _ (by sl_whole_mem))).trans ?_
  funext j
  frame_out
  rw [kscales_eq, kcodes_eq, kdeq_eq]

theorem runFirst_18 (f : arg18.view.ty.Contents (Elt Ideal)) :
    arg18.view.read (Elt Ideal) (arg18.view.writes (Elt Ideal) f
      (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.2.2.2.2.1)
      = qValues x4 := by
  refine (View.read_writes_eq_canon _ _ _ (View.cover_of_wholeMem _ (by sl_whole_mem))).trans ?_
  funext j
  frame_out
  rw [vscales_eq, vcodes_eq, vdeq_eq]

/-- The very first point quantises the new token and folds its block into the reset quantities. -/
theorem runFirst_spec (E : Set ℕ) (K : PUnit → sProp 𝕄) :
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg10 fullShare (qCodes x3)
              ∗ owns (c : Thread nD τ) arg11 fullShare (qScales x3)
              ∗ owns (c : Thread nD τ) arg12 fullShare (qCodes x4)
              ∗ owns (c : Thread nD τ) arg13 fullShare (qScales x4)
              ∗ owns (c : Thread nD τ) arg14 fullShare (stepM x2 x5 x6 resetM)
              ∗ owns (c : Thread nD τ) arg15 fullShare (stepL x2 x5 x6 resetM resetL)
              ∗ owns (c : Thread nD τ) arg16 fullShare (stepA x2 x5 x6 x7 x8 resetM resetA)
              ∗ owns (c : Thread nD τ) arg17 fullShare (qValues x3)
              ∗ owns (c : Thread nD τ) arg18 fullShare (qValues x4)) -∗ K PUnit.unit))
      ⊢ wp frame (wpE (defs₀ (F := Ideal)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H3, H4, H5, H6, H7, H8, H10, H11, H12, H13, H14, H15, H16, H17, H18, Hk⟩
  iapply ((runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8).2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]
  · unfold owns; iexists _; isplitr
    swap; · iexact H10
    ipureintro; exact runFirst_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f10
  isplitl [H11]
  · unfold owns; iexists _; isplitr
    swap; · iexact H11
    ipureintro; exact runFirst_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f11
  isplitl [H12]
  · unfold owns; iexists _; isplitr
    swap; · iexact H12
    ipureintro; exact runFirst_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f12
  isplitl [H13]
  · unfold owns; iexists _; isplitr
    swap; · iexact H13
    ipureintro; exact runFirst_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f13
  isplitl [H14]
  · unfold owns; iexists _; isplitr
    swap; · iexact H14
    ipureintro; exact runFirst_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f14
  isplitl [H15]
  · unfold owns; iexists _; isplitr
    swap; · iexact H15
    ipureintro; exact runFirst_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f15
  isplitl [H16]
  · unfold owns; iexists _; isplitr
    swap; · iexact H16
    ipureintro; exact runFirst_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f16
  isplitl [H17]
  · unfold owns; iexists _; isplitr
    swap; · iexact H17
    ipureintro; exact runFirst_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f17
  unfold owns; iexists _; isplitr
  swap; · iexact H18
  ipureintro; exact runFirst_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x3 x4 x5 x6 x7 x8 f18

end Cert.KernelIdeal.Attn
-- ==== Proof.ValReset.lean ====
/- What the first point of a later batch stores: a block's step from the reset quantities. -/
module

public import proofs.«01_k».proof.Proof.RunFirst
public import proofs.«01_k».proof.Proof.Payloads
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)
  (hc0 : ¬cond0_0 i) (hc1 : cond0_1 i) (hc2 : ¬cond0_2 i)
  (x2 : FVec Ideal S1x2x8x128 .bf16) (x5 : IVec S1x2x2048x128 8) (x6 : FVec Ideal S1x2x2048 .f32) (x7 : IVec S1x2x2048x128 8) (x8 : FVec Ideal S1x2x2048 .f32)
include hc0 hc1 hc2

theorem runReset_14 (f : arg14.view.ty.Contents (Elt Ideal)) :
    arg14.view.read (Elt Ideal) (arg14.view.writes (Elt Ideal) f
      (runReset (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8).1)
      = stepM x2 x5 x6 resetM := by
  refine (View.read_writes_eq_canon _ _ _ (View.cover_of_wholeMem _ (by sl_whole_mem))).trans ?_
  funext j
  frame_out
  idx_vars j
  refine (canon_two _ _ _ (View.cover_of_tiledL _ ![8, 1] (by sl_kernel_rfl)) _).trans ?_
  canon_tiles x h
  case piece0 =>
    idx_vars x
    obtain rfl : j0 = row1 x0 := Fin.ext h0
    obtain rfl : j1 = x1 := Fin.ext h1
    exact head1_m _ _ _ _ _ _ _ (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) _ _
  case piece1 =>
    idx_vars x
    obtain rfl : j0 = row0 x0 := Fin.ext h0
    obtain rfl : j1 = x1 := Fin.ext h1
    exact head0_m _ _ _ _ _ _ _ (fun _ _ => by pointwise) (fun _ _ => by pointwise) (fun _ => by rw [View.readCov_eq_canon']; simp (disch := decide) only [View.canon_cons_unit_lit']; pointwise [k0_pay20, k0_pay21, resetM, resetL, ofBits_neg_inf]) _ _

theorem runReset_15 (f : arg15.view.ty.Contents (Elt Ideal)) :
    arg15.view.read (Elt Ideal) (arg15.view.writes (Elt Ideal) f
      (runReset (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8).2.1)
      = stepL x2 x5 x6 resetM resetL := by
  refine (View.read_writes_eq_canon _ _ _ (View.cover_of_wholeMem _ (by sl_whole_mem))).trans ?_
  funext j
  frame_out
  idx_vars j
  refine (canon_two _ _ _ (View.cover_of_tiledL _ ![8, 1] (by sl_kernel_rfl)) _).trans ?_
  canon_tiles x h
  case piece0 =>
    idx_vars x
    obtain rfl : j0 = row1 x0 := Fin.ext h0
    obtain rfl : j1 = x1 := Fin.ext h1
    exact head1_l _ _ _ _ _ _ _ _ _ (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) (fun _ => by rw [readCov_skip _ _ _ 0 (by decide), View.readCov_eq_canon']; simp (disch := decide) only [View.canon_cons_unit_lit']; pointwise [k0_pay20, k0_pay21, resetM, resetL, ofBits_neg_inf]) _ _
  case piece1 =>
    idx_vars x
    obtain rfl : j0 = row0 x0 := Fin.ext h0
    obtain rfl : j1 = x1 := Fin.ext h1
    exact head0_l _ _ _ _ _ _ _ _ _ (fun _ _ => by pointwise) (fun _ _ => by pointwise) (fun _ => by rw [View.readCov_eq_canon']; simp (disch := decide) only [View.canon_cons_unit_lit']; pointwise [k0_pay20, k0_pay21, resetM, resetL, ofBits_neg_inf]) (fun _ => by rw [View.readCov_eq_canon']; simp (disch := decide) only [View.canon_cons_unit_lit']; pointwise [k0_pay20, k0_pay21, resetM, resetL, ofBits_neg_inf]) _ _

theorem runReset_16 (f : arg16.view.ty.Contents (Elt Ideal)) :
    arg16.view.read (Elt Ideal) (arg16.view.writes (Elt Ideal) f
      (runReset (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8).2.2.1)
      = stepA x2 x5 x6 x7 x8 resetM resetA := by
  refine (View.read_writes_eq_canon _ _ _ (View.cover_of_wholeMem _ (by sl_whole_mem))).trans ?_
  funext j
  frame_out
  idx_vars j
  refine (canon_two _ _ _ (View.cover_of_tiledL _ ![8, 128] (by sl_kernel_rfl)) _).trans ?_
  canon_tiles x h
  case piece0 =>
    idx_vars x
    obtain rfl : j0 = row1 x0 := Fin.ext h0
    obtain rfl : j1 = x1 := Fin.ext h1
    exact head1_a _ _ _ _ _ _ _ _ _ _ _ _ (fun _ _ => by pointwise) (fun _ _ => by pointwise) (fun _ _ => by pointwise) (fun _ => by rw [readCov_skip _ _ _ 0 (by decide), View.readCov_eq_canon']; simp (disch := decide) only [View.canon_cons_unit_lit']; pointwise [k0_pay20, k0_pay21, resetM, resetL, ofBits_neg_inf]) (fun _ _ => by rw [readCov_skip _ _ _ 0 (by decide), View.readCov_eq_canon']; simp (disch := decide) only [View.canon_cons_unit_lit']; pointwise [k0_pay22, resetA]) _ _
  case piece1 =>
    idx_vars x
    obtain rfl : j0 = row0 x0 := Fin.ext h0
    obtain rfl : j1 = x1 := Fin.ext h1
    exact head0_a _ _ _ _ _ _ _ _ _ _ _ _ (fun _ _ => by pointwise) (fun _ _ => by pointwise) (fun _ _ => by pointwise) (fun _ => by rw [View.readCov_eq_canon']; simp (disch := decide) only [View.canon_cons_unit_lit']; pointwise [k0_pay20, k0_pay21, resetM, resetL, ofBits_neg_inf]) (fun _ _ => by rw [View.readCov_eq_canon']; simp (disch := decide) only [View.canon_cons_unit_lit']; pointwise [k0_pay22, resetA]) _ _

/-- The first point of a later batch folds its block into the reset quantities. -/
theorem runReset_spec (E : Set ℕ) (K : PUnit → sProp 𝕄) :
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg14 fullShare (stepM x2 x5 x6 resetM)
              ∗ owns (c : Thread nD τ) arg15 fullShare (stepL x2 x5 x6 resetM resetL)
              ∗ owns (c : Thread nD τ) arg16 fullShare (stepA x2 x5 x6 x7 x8 resetM resetA)) -∗ K PUnit.unit))
      ⊢ wp frame (wpE (defs₀ (F := Ideal)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H5, H6, H7, H8, H14, H15, H16, Hk⟩
  iapply ((runReset (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8).2.2.2 E K)
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, ⟨%f14, H14⟩, ⟨%f15, H15⟩, ⟨%f16, H16⟩⟩
  iapply Hk
  isplitl [H2]; · iexact H2
  isplitl [H5]; · iexact H5
  isplitl [H6]; · iexact H6
  isplitl [H7]; · iexact H7
  isplitl [H8]; · iexact H8
  isplitl [H14]
  · unfold owns; iexists _; isplitr
    swap; · iexact H14
    ipureintro; exact runReset_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 f14
  isplitl [H15]
  · unfold owns; iexists _; isplitr
    swap; · iexact H15
    ipureintro; exact runReset_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 f15
  unfold owns; iexists _; isplitr
  swap; · iexact H16
  ipureintro; exact runReset_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 f16

end Cert.KernelIdeal.Attn
-- ==== Proof.ValStep.lean ====
/- What a point in the middle of a batch stores, as the block's mathematics. -/
module

public import proofs.«01_k».proof.Proof.RunFirst
public import proofs.«01_k».proof.Proof.Payloads
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)
  (hc0 : ¬cond0_0 i) (hc1 : ¬cond0_1 i) (hc2 : ¬cond0_2 i)
  (x2 : FVec Ideal S1x2x8x128 .bf16) (x5 : IVec S1x2x2048x128 8) (x6 : FVec Ideal S1x2x2048 .f32) (x7 : IVec S1x2x2048x128 8) (x8 : FVec Ideal S1x2x2048 .f32) (x14 : FVec Ideal S16x1 .f32) (x15 : FVec Ideal S16x1 .f32) (x16 : FVec Ideal S16x128 .f32)
include hc0 hc1 hc2

theorem runStep_14 (f : arg14.view.ty.Contents (Elt Ideal)) :
    arg14.view.read (Elt Ideal) (arg14.view.writes (Elt Ideal) f
      (runStep (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16).1)
      = stepM x2 x5 x6 x14 := by
  refine (View.read_writes_eq_canon _ _ _ (View.cover_of_tiledL _ ![8, 1] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_m _ _ _ _ _ _ _ (fun _ _ => by pointwise) (fun _ _ => by pointwise) (fun _ => by pointwise; rfl) _ _
  case piece1 =>
    idx_vars x
    obtain rfl : j0 = row0 x0 := Fin.ext h0
    obtain rfl : j1 = x1 := Fin.ext h1
    exact head0_m _ _ _ _ _ _ _ (fun _ _ => by pointwise) (fun _ _ => by pointwise) (fun _ => by pointwise; rfl) _ _

theorem runStep_15 (f : arg15.view.ty.Contents (Elt Ideal)) :
    arg15.view.read (Elt Ideal) (arg15.view.writes (Elt Ideal) f
      (runStep (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16).2.1)
      = stepL x2 x5 x6 x14 x15 := by
  refine (View.read_writes_eq_canon _ _ _ (View.cover_of_tiledL _ ![8, 1] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_l _ _ _ _ _ _ _ _ _ (fun _ _ => by pointwise) (fun _ _ => by pointwise) (fun _ => by pointwise; rfl) (fun _ => by pointwise; rfl) _ _
  case piece1 =>
    idx_vars x
    obtain rfl : j0 = row0 x0 := Fin.ext h0
    obtain rfl : j1 = x1 := Fin.ext h1
    exact head0_l _ _ _ _ _ _ _ _ _ (fun _ _ => by pointwise) (fun _ _ => by pointwise) (fun _ => by pointwise; rfl) (fun _ => by pointwise; rfl) _ _

theorem runStep_16 (f : arg16.view.ty.Contents (Elt Ideal)) :
    arg16.view.read (Elt Ideal) (arg16.view.writes (Elt Ideal) f
      (runStep (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16).2.2.1)
      = stepA x2 x5 x6 x7 x8 x14 x16 := by
  refine (View.read_writes_eq_canon _ _ _ (View.cover_of_tiledL _ ![8, 128] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_a _ _ _ _ _ _ _ _ _ _ _ _ (fun _ _ => by pointwise) (fun _ _ => by pointwise) (fun _ _ => by pointwise) (fun _ => by pointwise; rfl) (fun _ _ => by pointwise; rfl) _ _
  case piece1 =>
    idx_vars x
    obtain rfl : j0 = row0 x0 := Fin.ext h0
    obtain rfl : j1 = x1 := Fin.ext h1
    exact head0_a _ _ _ _ _ _ _ _ _ _ _ _ (fun _ _ => by pointwise) (fun _ _ => by pointwise) (fun _ _ => by pointwise) (fun _ => by pointwise; rfl) (fun _ _ => by pointwise; rfl) _ _

/-- A point in the middle of a batch folds its block into the three running quantities. -/
theorem runStep_spec (E : Set ℕ) (K : PUnit → sProp 𝕄) :
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg14 fullShare x14
          ∗ owns (c : Thread nD τ) arg15 fullShare x15
          ∗ owns (c : Thread nD τ) arg16 fullShare x16
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg14 fullShare (stepM x2 x5 x6 x14)
              ∗ owns (c : Thread nD τ) arg15 fullShare (stepL x2 x5 x6 x14 x15)
              ∗ owns (c : Thread nD τ) arg16 fullShare (stepA x2 x5 x6 x7 x8 x14 x16)) -∗ K PUnit.unit))
      ⊢ wp frame (wpE (defs₀ (F := Ideal)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H5, H6, H7, H8, H14, H15, H16, Hk⟩
  iapply ((runStep (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16).2.2.2 E K)
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, ⟨%f14, H14⟩, ⟨%f15, H15⟩, ⟨%f16, H16⟩⟩
  iapply Hk
  isplitl [H2]; · iexact H2
  isplitl [H5]; · iexact H5
  isplitl [H6]; · iexact H6
  isplitl [H7]; · iexact H7
  isplitl [H8]; · iexact H8
  isplitl [H14]
  · unfold owns; iexists _; isplitr
    swap; · iexact H14
    ipureintro; exact runStep_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16 f14
  isplitl [H15]
  · unfold owns; iexists _; isplitr
    swap; · iexact H15
    ipureintro; exact runStep_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16 f15
  unfold owns; iexists _; isplitr
  swap; · iexact H16
  ipureintro; exact runStep_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x14 x15 x16 f16

end Cert.KernelIdeal.Attn
-- ==== Proof.ValLast.lean ====
/- What the last point of a batch stores: a block's step, and the output rows. -/
module

public import proofs.«01_k».proof.Proof.RunFirst
public import proofs.«01_k».proof.Proof.Payloads
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

variable (c : Dev nD) (i : grid0.Coords)
variable
  (arg2 : Memref sig .tc .vmem S1x2x8x128 .bf16) (harg2 : arg2.IsWhole)
  (arg3 : Memref sig .tc .vmem S64x128 .f32) (harg3 : arg3.IsWhole)
  (arg4 : Memref sig .tc .vmem S64x128 .f32) (harg4 : arg4.IsWhole)
  (arg5 : Memref sig .tc .vmem S1x2x2048x128 .i8) (harg5 : arg5.IsWhole)
  (arg6 : Memref sig .tc .vmem S1x2x2048 .f32) (harg6 : arg6.IsWhole)
  (arg7 : Memref sig .tc .vmem S1x2x2048x128 .i8) (harg7 : arg7.IsWhole)
  (arg8 : Memref sig .tc .vmem S1x2x2048 .f32) (harg8 : arg8.IsWhole)
  (arg9 : Memref sig .tc .vmem S1x16x128 .f32) (harg9 : arg9.IsWhole)
  (arg10 : Memref sig .tc .vmem S64x128 .i8) (harg10 : arg10.IsWhole)
  (arg11 : Memref sig .tc .vmem S64x1 .f32) (harg11 : arg11.IsWhole)
  (arg12 : Memref sig .tc .vmem S64x128 .i8) (harg12 : arg12.IsWhole)
  (arg13 : Memref sig .tc .vmem S64x1 .f32) (harg13 : arg13.IsWhole)
  (arg14 : Memref sig .tc .vmem S16x1 .f32) (harg14 : arg14.IsWhole)
  (arg15 : Memref sig .tc .vmem S16x1 .f32) (harg15 : arg15.IsWhole)
  (arg16 : Memref sig .tc .vmem S16x128 .f32) (harg16 : arg16.IsWhole)
  (arg17 : Memref sig .tc .vmem S64x128 .f32) (harg17 : arg17.IsWhole)
  (arg18 : Memref sig .tc .vmem S64x128 .f32) (harg18 : arg18.IsWhole)
  (hc0 : ¬cond0_0 i) (hc1 : ¬cond0_1 i) (hc2 : cond0_2 i)
  (x2 : FVec Ideal S1x2x8x128 .bf16) (x5 : IVec S1x2x2048x128 8) (x6 : FVec Ideal S1x2x2048 .f32) (x7 : IVec S1x2x2048x128 8) (x8 : FVec Ideal S1x2x2048 .f32) (x17 : FVec Ideal S64x128 .f32) (x18 : FVec Ideal S64x128 .f32) (x14 : FVec Ideal S16x1 .f32) (x15 : FVec Ideal S16x1 .f32) (x16 : FVec Ideal S16x128 .f32)
include hc0 hc1 hc2

theorem runLast_9 (f : arg9.view.ty.Contents (Elt Ideal)) :
    arg9.view.read (Elt Ideal) (arg9.view.writes (Elt Ideal) f
      (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16).1)
      = stepY x2 (tokRow x17 i) (tokRow x18 i) (stepM x2 x5 x6 x14) (stepL x2 x5 x6 x14 x15) (stepA x2 x5 x6 x7 x8 x14 x16) := by
  refine (View.read_writes_eq_canon _ _ _ (View.cover_of_tiledL _ ![1, 8, 128] (by sl_kernel_rfl))).trans ?_
  funext j
  frame_out
  idx_vars j
  canon_tiles x h
  case piece0 =>
    idx_vars x
    obtain rfl : j0 = x0 := Subsingleton.elim _ _
    obtain rfl : j1 = row1 x1 := Fin.ext h1
    obtain rfl : j2 = _ := Fin.ext h2
    exact head1_y _ _ _ _ _ _ _ _ _ _ _ _ (fun _ _ => by pointwise) (fun _ => by pointwise [tokRow, off0_row, off1_row, off_col]) (fun _ => by pointwise [tokRow, off0_row, off1_row, off_col])
      (fun g => by rw [View.readCov_cons_toLoadRect]; exact head1_m _ _ _ _ _ _ _ (fun _ _ => by pointwise) (fun _ _ => by pointwise) (fun _ => by pointwise; rfl) g 0)
      (fun g => by rw [View.readCov_cons_toLoadRect]; exact head1_l _ _ _ _ _ _ _ _ _ (fun _ _ => by pointwise) (fun _ _ => by pointwise) (fun _ => by pointwise; rfl) (fun _ => by pointwise; rfl) g 0)
      (fun g d => by rw [View.readCov_cons_toLoadRect]; exact head1_a _ _ _ _ _ _ _ _ _ _ _ _ (fun _ _ => by pointwise) (fun _ _ => by pointwise) (fun _ _ => by pointwise) (fun _ => by pointwise; rfl) (fun _ _ => by pointwise; rfl) g d) _ _ _
  case piece1 =>
    idx_vars x
    obtain rfl : j0 = x0 := Subsingleton.elim _ _
    obtain rfl : j1 = row0 x1 := Fin.ext h1
    obtain rfl : j2 = _ := Fin.ext h2
    exact head0_y _ _ _ _ _ _ _ _ _ _ _ _ (fun _ _ => by pointwise) (fun _ => by pointwise [tokRow, off0_row, off1_row, off_col]) (fun _ => by pointwise [tokRow, off0_row, off1_row, off_col])
      (fun g => by rw [readCov_skip _ _ _ 0 (by decide), View.readCov_cons_toLoadRect]; exact head0_m _ _ _ _ _ _ _ (fun _ _ => by pointwise) (fun _ _ => by pointwise) (fun _ => by pointwise; rfl) g 0)
      (fun g => by rw [readCov_skip _ _ _ 0 (by decide), View.readCov_cons_toLoadRect]; exact head0_l _ _ _ _ _ _ _ _ _ (fun _ _ => by pointwise) (fun _ _ => by pointwise) (fun _ => by pointwise; rfl) (fun _ => by pointwise; rfl) g 0)
      (fun g d => by rw [readCov_skip _ _ _ 0 (by decide), View.readCov_cons_toLoadRect]; exact head0_a _ _ _ _ _ _ _ _ _ _ _ _ (fun _ _ => by pointwise) (fun _ _ => by pointwise) (fun _ _ => by pointwise) (fun _ => by pointwise; rfl) (fun _ _ => by pointwise; rfl) g d) _ _ _

theorem runLast_14 (f : arg14.view.ty.Contents (Elt Ideal)) :
    arg14.view.read (Elt Ideal) (arg14.view.writes (Elt Ideal) f
      (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16).2.1)
      = stepM x2 x5 x6 x14 := by
  refine (View.read_writes_eq_canon _ _ _ (View.cover_of_tiledL _ ![8, 1] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_m _ _ _ _ _ _ _ (fun _ _ => by pointwise) (fun _ _ => by pointwise) (fun _ => by pointwise; rfl) _ _
  case piece1 =>
    idx_vars x
    obtain rfl : j0 = row0 x0 := Fin.ext h0
    obtain rfl : j1 = x1 := Fin.ext h1
    exact head0_m _ _ _ _ _ _ _ (fun _ _ => by pointwise) (fun _ _ => by pointwise) (fun _ => by pointwise; rfl) _ _

theorem runLast_15 (f : arg15.view.ty.Contents (Elt Ideal)) :
    arg15.view.read (Elt Ideal) (arg15.view.writes (Elt Ideal) f
      (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16).2.2.1)
      = stepL x2 x5 x6 x14 x15 := by
  refine (View.read_writes_eq_canon _ _ _ (View.cover_of_tiledL _ ![8, 1] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_l _ _ _ _ _ _ _ _ _ (fun _ _ => by pointwise) (fun _ _ => by pointwise) (fun _ => by pointwise; rfl) (fun _ => by pointwise; rfl) _ _
  case piece1 =>
    idx_vars x
    obtain rfl : j0 = row0 x0 := Fin.ext h0
    obtain rfl : j1 = x1 := Fin.ext h1
    exact head0_l _ _ _ _ _ _ _ _ _ (fun _ _ => by pointwise) (fun _ _ => by pointwise) (fun _ => by pointwise; rfl) (fun _ => by pointwise; rfl) _ _

theorem runLast_16 (f : arg16.view.ty.Contents (Elt Ideal)) :
    arg16.view.read (Elt Ideal) (arg16.view.writes (Elt Ideal) f
      (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16).2.2.2.1)
      = stepA x2 x5 x6 x7 x8 x14 x16 := by
  refine (View.read_writes_eq_canon _ _ _ (View.cover_of_tiledL _ ![8, 128] (by sl_kernel_rfl))).trans ?_
  funext j
  frame_out
  idx_vars j
  canon_tiles x h
  case piece0 =>
    idx_vars x
    obtain rfl : j0 = row1 x0 := Fin.ext h0
    obtain rfl : j1 = x1 := Fin.ext h1
    exact head1_a _ _ _ _ _ _ _ _ _ _ _ _ (fun _ _ => by pointwise) (fun _ _ => by pointwise) (fun _ _ => by pointwise) (fun _ => by pointwise; rfl) (fun _ _ => by pointwise; rfl) _ _
  case piece1 =>
    idx_vars x
    obtain rfl : j0 = row0 x0 := Fin.ext h0
    obtain rfl : j1 = x1 := Fin.ext h1
    exact head0_a _ _ _ _ _ _ _ _ _ _ _ _ (fun _ _ => by pointwise) (fun _ _ => by pointwise) (fun _ _ => by pointwise) (fun _ => by pointwise; rfl) (fun _ _ => by pointwise; rfl) _ _

/-- The last point of a batch folds its block into the running quantities and stores the output rows. -/
theorem runLast_spec (E : Set ℕ) (K : PUnit → sProp 𝕄) :
        iprop(owns (c : Thread nD τ) arg2 fullShare x2
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg17 fullShare x17
          ∗ owns (c : Thread nD τ) arg18 fullShare x18
          ∗ (∃ d, owns (c : Thread nD τ) arg9 fullShare d)
          ∗ owns (c : Thread nD τ) arg14 fullShare x14
          ∗ owns (c : Thread nD τ) arg15 fullShare x15
          ∗ owns (c : Thread nD τ) arg16 fullShare x16
          ∗ (iprop(owns (c : Thread nD τ) arg2 fullShare x2
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg17 fullShare x17
              ∗ owns (c : Thread nD τ) arg18 fullShare x18
              ∗ owns (c : Thread nD τ) arg9 fullShare (stepY x2 (tokRow x17 i) (tokRow x18 i) (stepM x2 x5 x6 x14) (stepL x2 x5 x6 x14 x15) (stepA x2 x5 x6 x7 x8 x14 x16))
              ∗ owns (c : Thread nD τ) arg14 fullShare (stepM x2 x5 x6 x14)
              ∗ owns (c : Thread nD τ) arg15 fullShare (stepL x2 x5 x6 x14 x15)
              ∗ owns (c : Thread nD τ) arg16 fullShare (stepA x2 x5 x6 x7 x8 x14 x16)) -∗ K PUnit.unit))
      ⊢ wp frame (wpE (defs₀ (F := Ideal)) Variants.none c none) E
          (cc0__attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H5, H6, H7, H8, H17, H18, H9, H14, H15, H16, Hk⟩
  iapply ((runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16).2.2.2.2 E K)
  isplitl [H2]; · iexact H2
  isplitl [H5]; · iexact H5
  isplitl [H6]; · iexact H6
  isplitl [H7]; · iexact H7
  isplitl [H8]; · iexact H8
  isplitl [H17]; · iexact H17
  isplitl [H18]; · iexact H18
  isplitl [H9]; · iexact H9
  isplitl [H14]; · iexact H14
  isplitl [H15]; · iexact H15
  isplitl [H16]; · iexact H16
  iintro ⟨H2, H5, H6, H7, H8, H17, H18, ⟨%f9, H9⟩, ⟨%f14, H14⟩, ⟨%f15, H15⟩, ⟨%f16, H16⟩⟩
  iapply Hk
  isplitl [H2]; · iexact H2
  isplitl [H5]; · iexact H5
  isplitl [H6]; · iexact H6
  isplitl [H7]; · iexact H7
  isplitl [H8]; · iexact H8
  isplitl [H17]; · iexact H17
  isplitl [H18]; · iexact H18
  isplitl [H9]
  · unfold owns; iexists _; isplitr
    swap; · iexact H9
    ipureintro; exact runLast_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16 f9
  isplitl [H14]
  · unfold owns; iexists _; isplitr
    swap; · iexact H14
    ipureintro; exact runLast_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16 f14
  isplitl [H15]
  · unfold owns; iexists _; isplitr
    swap; · iexact H15
    ipureintro; exact runLast_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16 f15
  unfold owns; iexists _; isplitr
  swap; · iexact H16
  ipureintro; exact runLast_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x2 x5 x6 x7 x8 x17 x18 x14 x15 x16 f16

end Cert.KernelIdeal.Attn
-- ==== Proof.Body.lean ====
/- The body at every grid point: from what the point finds to what it leaves, one theorem per case of its branches. -/
module

public import proofs.«01_k».proof.Proof.State
public import proofs.«01_k».proof.Proof.ValFirst
public import proofs.«01_k».proof.Proof.ValReset
public import proofs.«01_k».proof.Proof.ValStep
public import proofs.«01_k».proof.Proof.ValLast
public import Idealize.ShloMosaic.Lib.Pipeline.TableIdle
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- What the body is called with at a point, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The very first point. -/
theorem sound_first :
    bodyPre m c p0 ⊢ wp frame (wpE (defs₀ (F := Ideal)) Variants.none c none) Set.univ (bodyAt0 p0) (fun _ => bodyPost m c p0) := by
  unfold bodyPre bodyPost bodyAt0
  simp only [before0_0, before0_1, before0_2, before0_3, before0_4, before0_5, before0_6]
  rw [show (dats m 0 c).owesAt () p0.succ = (dats m 0 c).owesAt () p0.castSucc from rfl,
    show (dats m 0 c).Φ p0.succ = PhiS m c (p0.val + 1) p0.isLt from rfl, PhiS_succ, PhiS_castSucc m c p0, PhiS_zero m c _ _ (show p0.val = 0 from rfl), PhiA0_eq,
    leaves0, leaves1, leaves2, leaves3, leaves4, leaves5, leaves6, leaves7_rest _ _ _ (by decide), first8 _ _ _ (by decide), first9 _ _ _ (by decide), first10 _ _ _ (by decide), first11 _ _ _ (by decide), st_reset m c _ (by decide)]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩, ⟨%d12, H12⟩, ⟨%d13, H13⟩⟩
  iapply (runFirst_spec c (grid0.coords p0) _ _ _ _ _ _ _ _ _ _ _ _ _ _ _ _ _ _ _ _ _ _ _ _ _ _ _ _ _ _ _ _ _ _ ((hcond0_0 p0).mpr (by decide)) ((hcond0_1 p0).mpr (by decide)) (fun h => absurd ((hcond0_2 p0).mp h) (by decide)) (blkQ m c p0) (blkKn m c p0) (blkVn m c p0) (blkKc m c p0) (blkKs m c p0) (blkVc m c p0) (blkVs m c p0) Set.univ (fun _ => _))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [H18]; · iexact H18
  iintro ⟨H2, H3, H4, H5, H6, H7, H8, H10, H11, H12, H13, H14, H15, H16, H17, H18⟩
  isplitl [H14 H15 H16 H17 H18 Hg]
  · isplitl [H14 H15 H16 H17 H18]
    · isplitl [H14]; · iexact H14
      isplitl [H15]; · iexact H15
      isplitl [H16]; · iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The first point of a later batch. -/
theorem sound_reset (t : Fin cfg0.N) (h0 : ¬t.val % 256 = 0) (h1 : t.val % 8 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = PhiS m c (t.val + 1) t.isLt from rfl, PhiS_succ, PhiS_castSucc m c t, PhiS_pos m c _ _ (by omega),
    leaves0, leaves1, leaves2, leaves3, leaves4, leaves5, leaves6, leaves7_rest _ _ _ (by omega), st_reset m c _ h1]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply (runReset_spec c (grid0.coords t) _ _ _ _ _ _ _ _ _ _ _ _ _ _ _ _ _ _ _ _ _ _ _ _ _ _ _ _ _ _ _ _ _ _ (fun h => h0 ((hcond0_0 t).mp h)) ((hcond0_1 t).mpr h1) (fun h => by have := (hcond0_2 t).mp h; omega) (blkQ m c t) (blkKc m c t) (blkKs m c t) (blkVc m c t) (blkVs m c t) Set.univ (fun _ => _))
  isplitl [H2]; · iexact H2
  isplitl [H5]; · iexact H5
  isplitl [H6]; · iexact H6
  isplitl [H7]; · iexact H7
  isplitl [H8]; · iexact H8
  isplitl [H14]; · iexists _; iexact H14
  isplitl [H15]; · iexists _; iexact H15
  isplitl [H16]; · iexists _; iexact H16
  iintro ⟨H2, H5, H6, H7, H8, H14, H15, H16⟩
  isplitl [H14 H15 H16 H17 H18 Hg]
  · isplitl [H14 H15 H16 H17 H18]
    · isplitl [H14]; · iexact H14
      isplitl [H15]; · iexact H15
      isplitl [H16]; · iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (kept8 m c t h0); iexact H10
  isplitl [H11]; · iapply (kept9 m c t h0); iexact H11
  isplitl [H12]; · iapply (kept10 m c t h0); iexact H12
  iapply (kept11 m c t h0); iexact H13

/-- A point inside a batch. -/
theorem sound_step (t : Fin cfg0.N) (h0 : ¬t.val % 256 = 0) (h1 : ¬t.val % 8 = 0) (h2 : ¬t.val % 8 = 7) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = PhiS m c (t.val + 1) t.isLt from rfl, PhiS_succ, PhiS_castSucc m c t, PhiS_pos m c _ _ (by omega),
    leaves0, leaves1, leaves2, leaves3, leaves4, leaves5, leaves6, leaves7_rest _ _ _ h2, st_step m c _ h1]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply (runStep_spec c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (blkQ m c t) (blkKc m c t) (blkKs m c t) (blkVc m c t) (blkVs m c t) ((st m c (t.val - 1) (by omega)).1) ((st m c (t.val - 1) (by omega)).2.1) ((st m c (t.val - 1) (by omega)).2.2) Set.univ (fun _ => _))
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, H14, H15, H16⟩
  isplitl [H14 H15 H16 H17 H18 Hg]
  · isplitl [H14 H15 H16 H17 H18]
    · isplitl [H14]; · iexact H14
      isplitl [H15]; · iexact H15
      isplitl [H16]; · iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (kept8 m c t h0); iexact H10
  isplitl [H11]; · iapply (kept9 m c t h0); iexact H11
  isplitl [H12]; · iapply (kept10 m c t h0); iexact H12
  iapply (kept11 m c t h0); iexact H13

/-- The last point of a batch. -/
theorem sound_last (t : Fin cfg0.N) (h0 : ¬t.val % 256 = 0) (h1 : ¬t.val % 8 = 0) (h2 : t.val % 8 = 7) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = PhiS m c (t.val + 1) t.isLt from rfl, PhiS_succ, PhiS_castSucc m c t, PhiS_pos m c _ _ (by omega),
    leaves0, leaves1, leaves2, leaves3, leaves4, leaves5, leaves6, leaves7_last _ _ _ h2, yAt, st_step m c _ h1]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, H10, H11, H12, H13⟩
  iapply (runLast_spec c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (blkQ m c t) (blkKc m c t) (blkKs m c t) (blkVc m c t) (blkVs m c t) (kNew m c) (vNew m c) ((st m c (t.val - 1) (by omega)).1) ((st m c (t.val - 1) (by omega)).2.1) ((st m c (t.val - 1) (by omega)).2.2) Set.univ (fun _ => _))
  isplitl [H2]; · iexact H2
  isplitl [H5]; · iexact H5
  isplitl [H6]; · iexact H6
  isplitl [H7]; · iexact H7
  isplitl [H8]; · iexact H8
  isplitl [H17]; · iexact H17
  isplitl [H18]; · iexact H18
  isplitl [H9]; · iexists _; iexact H9
  isplitl [H14]; · iexact H14
  isplitl [H15]; · iexact H15
  isplitl [H16]; · iexact H16
  iintro ⟨H2, H5, H6, H7, H8, H17, H18, H9, H14, H15, H16⟩
  isplitl [H14 H15 H16 H17 H18 Hg]
  · isplitl [H14 H15 H16 H17 H18]
    · isplitl [H14]; · iexact H14
      isplitl [H15]; · iexact H15
      isplitl [H16]; · iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (kept8 m c t h0); iexact H10
  isplitl [H11]; · iapply (kept9 m c t h0); iexact H11
  isplitl [H12]; · iapply (kept10 m c t h0); iexact H12
  iapply (kept11 m c t h0); iexact H13

/-- The body at any point. -/
theorem sound_body (t : Fin cfg0.N) :
    bodyPre m c t ⊢ wp frame (wpE (defs₀ (F := Ideal)) Variants.none c none) Set.univ (bodyAt0 t) (fun _ => bodyPost m c t) := by
  have hN : t.val < 256 := lt_of_lt_of_eq t.isLt N_0
  by_cases h0 : t.val % 256 = 0
  · obtain rfl : t = p0 := Fin.ext (show t.val = 0 by omega)
    exact sound_first m c
  · by_cases h1 : t.val % 8 = 0
    · exact sound_reset m c t h0 h1
    · by_cases h2 : t.val % 8 = 7
      · exact sound_last m c t h0 h1 h2
      · exact sound_step m c t h0 h1 h2

end Cert.KernelIdeal.Attn
-- ==== Proof.Region.lean ====
/- The region's run from the body's triples: the launch, the quiescence, and the arguments unchanged. -/
module

public import proofs.«01_k».proof.Proof.Body
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's triple at every point. -/
theorem body_obligation : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin : Pipeline.ΦA spec0 c ⊢ (dats m 0 c).Φ 0 := by
  rw [show (dats m 0 c).Φ 0 = PhiS m c 0 (Nat.zero_le _) from rfl, PhiS_zero m c 0 _ rfl]

/-- After any point but the first the invariant gives the scratch buffers back, their contents forgotten. -/
theorem Phi_out (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

theorem hout : (dats m 0 c).Φ (Fin.last cfg0.N) ⊢ Pipeline.ΦA spec0 c :=
  Phi_out m c _ (by rw [Fin.val_last]; have : cfg0.N = 256 := N_0; omega)

-- the launch theorem's implicit arguments are found by unifying its conclusion with this one
set_option backward.isDefEq.respectTransparency.types false in
set_option maxHeartbeats 800000 in
/-- Every execution ends, with every window's array at its final contents, every other buffer as the host operations
    leave it, and every semaphore at zero. -/
theorem run_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged, and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Attn
-- ==== Proof.Results.lean ====
/- What the program's results hold at the end: the output windows' arrays, reshaped. -/
module

public import proofs.«01_k».proof.Proof.Region

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen

variable (m : (ℓ : Loc nD τ sig) → Buf (Elt Ideal) ℓ) (ρ : Dev nD → PrngReg) (c : Dev nD)

/-- The arrays after the region, read through the valuation the host operations start from. -/
theorem arr_read (w : Fin 12) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c (V0 m c) _ w

theorem out_v9 : Pipeline.afterTail₀ cfgs (dats m) 0 (V0 m) [hostOps1] c main_v9
    = shapeCast S32x1x2048 ((dats m 0 c).arrAt 7 cfg0.N : FVec Ideal S32x16x128 .f32) shapeCasts_S32x16x128_S32x1x2048 := by
  refine Eq.trans ?_ (congrArg (fun z : FVec Ideal S32x16x128 .f32 => shapeCast S32x1x2048 z shapeCasts_S32x16x128_S32x1x2048) (arr_read m c 7))
  unfold Pipeline.afterTail₀
  entry_read
  rfl

theorem out_v10 : Pipeline.afterTail₀ cfgs (dats m) 0 (V0 m) [hostOps1] c main_v10
    = shapeCast S32x1x2x128 ((dats m 0 c).arrAt 8 cfg0.N : IVec S64x128 8) shapeCasts_S64x128_S32x1x2x128 := by
  refine Eq.trans ?_ (congrArg (fun z : IVec S64x128 8 => shapeCast S32x1x2x128 z shapeCasts_S64x128_S32x1x2x128) (arr_read m c 8))
  unfold Pipeline.afterTail₀
  entry_read
  rfl

theorem out_v11 : Pipeline.afterTail₀ cfgs (dats m) 0 (V0 m) [hostOps1] c main_v11
    = shapeCast S32x1x2 ((dats m 0 c).arrAt 9 cfg0.N : FVec Ideal S64x1 .f32) shapeCasts_S64x1_S32x1x2 := by
  refine Eq.trans ?_ (congrArg (fun z : FVec Ideal S64x1 .f32 => shapeCast S32x1x2 z shapeCasts_S64x1_S32x1x2) (arr_read m c 9))
  unfold Pipeline.afterTail₀
  entry_read
  rfl

theorem out_v12 : Pipeline.afterTail₀ cfgs (dats m) 0 (V0 m) [hostOps1] c main_v12
    = shapeCast S32x1x2x128 ((dats m 0 c).arrAt 10 cfg0.N : IVec S64x128 8) shapeCasts_S64x128_S32x1x2x128 := by
  refine Eq.trans ?_ (congrArg (fun z : IVec S64x128 8 => shapeCast S32x1x2x128 z shapeCasts_S64x128_S32x1x2x128) (arr_read m c 10))
  unfold Pipeline.afterTail₀
  entry_read
  rfl

theorem out_v13 : Pipeline.afterTail₀ cfgs (dats m) 0 (V0 m) [hostOps1] c main_v13
    = shapeCast S32x1x2 ((dats m 0 c).arrAt 11 cfg0.N : FVec Ideal S64x1 .f32) shapeCasts_S64x1_S32x1x2 := by
  refine Eq.trans ?_ (congrArg (fun z : FVec Ideal S64x1 .f32 => shapeCast S32x1x2 z shapeCasts_S64x1_S32x1x2) (arr_read m c 11))
  unfold Pipeline.afterTail₀
  entry_read
  rfl

end Cert.KernelIdeal.Attn
-- ==== Proof.Inputs.lean ====
/- The arrays the region starts from, entry by entry, as the arguments. -/
module

public import proofs.«01_k».proof.Proof.State

@[expose] public section

set_option maxRecDepth 16384

noncomputable section

namespace Cert.KernelIdeal.Attn

open Idealize.ShloMosaic Idealize.ShloMosaic.TcCoe Idealize.ShloMosaic.Tactic
open Cert.KernelIdeal.Gen

variable (m : (ℓ : Loc nD τ sig) → Buf (Elt Ideal) ℓ) (c : Dev nD)

/-- The arguments, at their types. -/
abbrev argX : FVec Ideal S32x1x2048 .f32 := m ((c : Thread nD τ).loc main_arg0)
abbrev argK : FVec Ideal S32x1x2x128 .f32 := m ((c : Thread nD τ).loc main_arg1)
abbrev argV : FVec Ideal S32x1x2x128 .f32 := m ((c : Thread nD τ).loc main_arg2)
abbrev argKc : IVec S32x16384x2x128 8 := m ((c : Thread nD τ).loc main_arg3)
abbrev argKs : FVec Ideal S32x16384x2 .f32 := m ((c : Thread nD τ).loc main_arg4)
abbrev argVc : IVec S32x16384x2x128 8 := m ((c : Thread nD τ).loc main_arg5)
abbrev argVs : FVec Ideal S32x16384x2 .f32 := m ((c : Thread nD τ).loc main_arg6)

/-- The arrays as the host operations before the region make them. -/
theorem arr_v1 : (V m c main_v1 : FVec Ideal S32x2x8x128 .bf16)
    = truncf .bf16 (shapeCast S32x2x8x128 (argX m c) shapeCasts_S32x1x2048_S32x2x8x128) bitsLt_bf16_f32 := by
  unfold V V0
  entry_read
  rfl

theorem arr_v2 : (V m c main_v2 : IVec S32x2x16384x128 8)
    = transpose S32x2x16384x128 [0, 2, 1, 3] (argKc m c) transposes_S32x16384x2x128_S32x2x16384x128_0_2_1_3 := by
  unfold V V0
  entry_read
  rfl

theorem arr_v3 : (V m c main_v3 : IVec S32x2x16384x128 8)
    = transpose S32x2x16384x128 [0, 2, 1, 3] (argVc m c) transposes_S32x16384x2x128_S32x2x16384x128_0_2_1_3 := by
  unfold V V0
  entry_read
  rfl

theorem arr_v4 : (V m c main_v4 : FVec Ideal S32x2x16384 .f32)
    = transpose S32x2x16384 [0, 2, 1] (argKs m c) transposes_S32x16384x2_S32x2x16384_0_2_1 := by
  unfold V V0
  entry_read
  rfl

theorem arr_v5 : (V m c main_v5 : FVec Ideal S32x2x16384 .f32)
    = transpose S32x2x16384 [0, 2, 1] (argVs m c) transposes_S32x16384x2_S32x2x16384_0_2_1 := by
  unfold V V0
  entry_read
  rfl

theorem arr_v6 : (V m c main_v6 : FVec Ideal S64x128 .f32)
    = shapeCast S64x128 (argK m c) shapeCasts_S32x1x2x128_S64x128 := by
  unfold V V0
  entry_read
  rfl

theorem arr_v7 : (V m c main_v7 : FVec Ideal S64x128 .f32)
    = shapeCast S64x128 (argV m c) shapeCasts_S32x1x2x128_S64x128 := by
  unfold V V0
  entry_read
  rfl

theorem V_v1 (b : Fin 32) (h : Fin 2) (g : Fin 8) (d : Fin 128) :
    (V m c main_v1 : FVec Ideal S32x2x8x128 .bf16) (ix4 b h g d)
      = argX m c (ix3 b 0 ⟨h.val * 1024 + g.val * 128 + d.val, by omega⟩) := by
  rw [arr_v1]
  pointwise

theorem V_v2 (b : Fin 32) (h : Fin 2) (k : Fin 16384) (d : Fin 128) :
    (V m c main_v2 : IVec S32x2x16384x128 8) (ix4 b h k d) = argKc m c (ix4 b k h d) := by
  rw [arr_v2]
  pointwise

theorem V_v3 (b : Fin 32) (h : Fin 2) (k : Fin 16384) (d : Fin 128) :
    (V m c main_v3 : IVec S32x2x16384x128 8) (ix4 b h k d) = argVc m c (ix4 b k h d) := by
  rw [arr_v3]
  pointwise

theorem V_v4 (b : Fin 32) (h : Fin 2) (k : Fin 16384) :
    (V m c main_v4 : FVec Ideal S32x2x16384 .f32) (ix3 b h k) = argKs m c (ix3 b k h) := by
  rw [arr_v4]
  pointwise

theorem V_v5 (b : Fin 32) (h : Fin 2) (k : Fin 16384) :
    (V m c main_v5 : FVec Ideal S32x2x16384 .f32) (ix3 b h k) = argVs m c (ix3 b k h) := by
  rw [arr_v5]
  pointwise

theorem V_v6 (r : Fin 64) (d : Fin 128) :
    (V m c main_v6 : FVec Ideal S64x128 .f32) (ix2 r d) = argK m c (ix4 ⟨r.val / 2, by omega⟩ 0 ⟨r.val % 2, by omega⟩ d) := by
  rw [arr_v6]
  pointwise

theorem V_v7 (r : Fin 64) (d : Fin 128) :
    (V m c main_v7 : FVec Ideal S64x128 .f32) (ix2 r d) = argV m c (ix4 ⟨r.val / 2, by omega⟩ 0 ⟨r.val % 2, by omega⟩ d) := by
  rw [arr_v7]
  pointwise

end Cert.KernelIdeal.Attn
-- ==== Proof.Blocks.lean ====
/- The blocks of the input windows, entry by entry, as the arguments: point `t` is block `t mod 8` of batch `t / 8`. -/
module

public import proofs.«01_k».proof.Proof.Inputs

@[expose] public section

set_option maxRecDepth 16384

noncomputable section

namespace Cert.KernelIdeal.Attn

open Idealize.ShloMosaic Idealize.ShloMosaic.TcCoe Idealize.ShloMosaic.Tactic
open Cert.KernelIdeal.Gen

variable (m : (ℓ : Loc nD τ sig) → Buf (Elt Ideal) ℓ) (c : Dev nD)

/-- The batch of a point, and a block's row among all cached rows. -/
def batch (t : Fin cfg0.N) : Fin 32 := ⟨t.val / 8, by have := t.isLt; have : cfg0.N = 256 := N_0; omega⟩
def pos (t : Fin cfg0.N) (k : Fin 2048) : Fin 16384 := ⟨t.val % 8 * 2048 + k.val, by omega⟩

/-- The block indices of the windows at each point. -/
theorem idx : ∀ t : Fin cfg0.N, win0_0.index t = ![t.val / 8, 0, 0, 0] ∧ win0_1.index t = ![0, 0] ∧ win0_2.index t = ![0, 0]
    ∧ win0_3.index t = ![t.val / 8, 0, t.val % 8, 0] ∧ win0_4.index t = ![t.val / 8, 0, t.val % 8]
    ∧ win0_5.index t = ![t.val / 8, 0, t.val % 8, 0] ∧ win0_6.index t = ![t.val / 8, 0, t.val % 8]
    ∧ win0_7.index t = ![t.val / 8, 0, 0] ∧ win0_8.index t = ![0, 0] ∧ win0_9.index t = ![0, 0]
    ∧ win0_10.index t = ![0, 0] ∧ win0_11.index t = ![0, 0] :=
  (by decide +kernel : ∀ t : Fin grid0.N, _)

theorem blkQ_entry (t : Fin cfg0.N) (h : Fin 2) (g : Fin 8) (d : Fin 128) :
    blkQ m c t (ix4 0 h g d) = argX m c (ix3 (batch t) 0 ⟨h.val * 1024 + g.val * 128 + d.val, by omega⟩) := by
  rw [← V_v1]
  blk_simp [iblk]
  blk_ext [idx t, batch]

theorem blkKc_entry (t : Fin cfg0.N) (h : Fin 2) (k : Fin 2048) (d : Fin 128) :
    blkKc m c t (ix4 0 h k d) = argKc m c (ix4 (batch t) (pos t k) h d) := by
  rw [← V_v2]
  blk_simp [iblk]
  blk_ext [idx t, batch, pos]

theorem blkVc_entry (t : Fin cfg0.N) (h : Fin 2) (k : Fin 2048) (d : Fin 128) :
    blkVc m c t (ix4 0 h k d) = argVc m c (ix4 (batch t) (pos t k) h d) := by
  rw [← V_v3]
  blk_simp [iblk]
  blk_ext [idx t, batch, pos]

theorem blkKs_entry (t : Fin cfg0.N) (h : Fin 2) (k : Fin 2048) :
    blkKs m c t (ix3 0 h k) = argKs m c (ix3 (batch t) (pos t k) h) := by
  rw [← V_v4]
  blk_simp [iblk]
  blk_ext [idx t, batch, pos]

theorem blkVs_entry (t : Fin cfg0.N) (h : Fin 2) (k : Fin 2048) :
    blkVs m c t (ix3 0 h k) = argVs m c (ix3 (batch t) (pos t k) h) := by
  rw [← V_v5]
  blk_simp [iblk]
  blk_ext [idx t, batch, pos]

theorem blkKn_entry (t : Fin cfg0.N) (r : Fin 64) (d : Fin 128) :
    blkKn m c t (ix2 r d) = argK m c (ix4 ⟨r.val / 2, by omega⟩ 0 ⟨r.val % 2, by omega⟩ d) := by
  rw [← V_v6]
  blk_simp [iblk]
  blk_ext [idx t]

theorem blkVn_entry (t : Fin cfg0.N) (r : Fin 64) (d : Fin 128) :
    blkVn m c t (ix2 r d) = argV m c (ix4 ⟨r.val / 2, by omega⟩ 0 ⟨r.val % 2, by omega⟩ d) := by
  rw [← V_v7]
  blk_simp [iblk]
  blk_ext [idx t]

end Cert.KernelIdeal.Attn
-- ==== Proof.RefQuant.lean ====
/- What the reference computes of the new token: its codes and scales, entry by entry. -/
module

public import proofs.«01_k».proof.Proof.Quant
public import proofs.«01_k».proof.Proof.Gen.ReferenceIdeal.Run

@[expose] public section

set_option maxRecDepth 16384

noncomputable section

namespace Cert.ReferenceIdeal.Attn

open Idealize.ShloMosaic Idealize.ShloMosaic.TcCoe
open Cert.ReferenceIdeal.Gen

/-- The new token's row of a batch and head. -/
def row (x : FVec Ideal S32x1x2x128 .f32) (b : Fin 32) (h : Fin 2) (d : Fin 128) : EReal := x (ix4 b 0 h d)

/-- The scales as the reference computes them. -/
def refScales (x : FVec Ideal S32x1x2x128 .f32) : FVec Ideal S32x1x2 .f32 :=
  select (cmpf .oeq (Host.reduce FloatOps.maximumf (Host.absf x) (constant (F := Ideal) S_ .f32 0xFF800000#32) reducesTo_S32x1x2x128_S32x1x2_d3 h_S_)
      (broadcastInDim S32x1x2 ![] bcast_S_S32x1x2 (constant (F := Ideal) S_ .f32 0x00000000#32)))
    (broadcastInDim S32x1x2 ![] bcast_S_S32x1x2 (constant (F := Ideal) S_ .f32 0x3F800000#32))
    (Host.divf (Host.reduce FloatOps.maximumf (Host.absf x) (constant (F := Ideal) S_ .f32 0xFF800000#32) reducesTo_S32x1x2x128_S32x1x2_d3 h_S_)
      (broadcastInDim S32x1x2 ![] bcast_S_S32x1x2 (constant (F := Ideal) S_ .f32 0x42FE0000#32)))

/-- The codes as the reference computes them. -/
def refCodes (x : FVec Ideal S32x1x2x128 .f32) : IVec S32x1x2x128 8 :=
  trunci 8 (fptosi 32 (minimumf (broadcastInDim S32x1x2x128 ![] bcast_S_S32x1x2x128 (id (constant (F := Ideal) S_ .f32 0x42FE0000#32)))
    (maximumf (broadcastInDim S32x1x2x128 ![] bcast_S_S32x1x2x128 (id (constant (F := Ideal) S_ .f32 0xC2FE0000#32)))
      (Host.roundeven (Host.divf x (broadcastInDim S32x1x2x128 ![0, 1, 2, 3] bcast_S32x1x2x1_S32x1x2x128_0_1_2_3
        (broadcastInDim S32x1x2x1 ![0, 1, 2] bcast_S32x1x2_S32x1x2x1_0_1_2 (refScales x)))))))) natLt_8_32

theorem ofBits_neg_inf : Ideal.ofBits .f32 0xFF800000#32 = ⊥ := by simp [Ideal.ofBits, Ideal.ieee]

theorem refScales_entry (x : FVec Ideal S32x1x2x128 .f32) (b : Fin 32) (h : Fin 2) :
    refScales x (ix3 b 0 h) = Quant.scale (row x b h) := by
  pointwise [refScales, ofBits_neg_inf, Quant.scale, Quant.amax, row]

theorem refCodes_entry (x : FVec Ideal S32x1x2x128 .f32) (b : Fin 32) (h : Fin 2) (d : Fin 128) :
    refCodes x (ix4 b 0 h d) = Quant.code (row x b h) d := by
  rw [← Quant.code_cut]
  pointwise [refCodes, refScales_entry, Quant.clipped, row]
  rfl

end Cert.ReferenceIdeal.Attn
-- ==== Proof.Softmax.lean ====
/- The softmax average of a finite family, taken in parts: the maximum, the normaliser and the weighted sum of a part
   of the family, and how those of a larger part follow from those of a smaller one. -/
module

public import Idealize.ShloMosaic.Lib.Pointwise

@[expose] public section

noncomputable section

namespace Cert.Softmax

open Idealize.ShloMosaic

/-- The rescaling factor when the maximum rises from `a` to `b`. -/
def factor (a b : EReal) : EReal := Ideal.exp (a - b)

theorem sub_top (a : EReal) : a - ⊤ = ⊥ := by rw [sub_eq_add_neg, EReal.neg_top]; exact EReal.add_bot a
theorem bot_sub (a : EReal) : (⊥ : EReal) - a = ⊥ := by rw [sub_eq_add_neg]; exact EReal.bot_add _

theorem exp_bot : Ideal.exp ⊥ = 0 := rfl
theorem exp_coe (x : ℝ) : Ideal.exp (x : EReal) = ((Real.exp x : ℝ) : EReal) := rfl

/-- The factor is a nonnegative real. -/
theorem factor_real {a b : EReal} (h : a ≤ b) : 0 ≤ factor a b ∧ factor a b ≠ ⊤ := by
  unfold factor
  induction b with
  | top => rw [sub_top, exp_bot]; exact ⟨le_refl _, EReal.zero_ne_top⟩
  | bot => rw [le_bot_iff.mp h, bot_sub, exp_bot]; exact ⟨le_refl _, EReal.zero_ne_top⟩
  | coe b =>
    induction a with
    | top => exact absurd h (not_le.mpr (EReal.coe_lt_top b))
    | bot => rw [bot_sub, exp_bot]; exact ⟨le_refl _, EReal.zero_ne_top⟩
    | coe a =>
      rw [← EReal.coe_sub, exp_coe]
      exact ⟨by exact_mod_cast (Real.exp_pos _).le, EReal.coe_ne_top _⟩

/-- A weight taken against `b` and rescaled to `c` is the weight taken against `c`. -/
theorem factor_exp {a b c : EReal} (h : a ≤ b) (h' : b ≤ c) : factor b c * Ideal.exp (a - b) = Ideal.exp (a - c) := by
  unfold factor
  induction c with
  | top => rw [sub_top, sub_top, exp_bot, zero_mul]
  | bot =>
    have hb := le_bot_iff.mp h'
    subst hb
    rw [bot_sub, exp_bot, zero_mul, le_bot_iff.mp h, bot_sub, exp_bot]
  | coe c =>
    induction b with
    | top => exact absurd h' (not_le.mpr (EReal.coe_lt_top c))
    | bot => rw [bot_sub, exp_bot, zero_mul, le_bot_iff.mp h, bot_sub, exp_bot]
    | coe b =>
      induction a with
      | top => exact absurd h (not_le.mpr (EReal.coe_lt_top b))
      | bot => rw [bot_sub, bot_sub, exp_bot, mul_zero]
      | coe a =>
        rw [← EReal.coe_sub, ← EReal.coe_sub, ← EReal.coe_sub, exp_coe, exp_coe, exp_coe, ← EReal.coe_mul, ← Real.exp_add]
        congr 2; ring

/-- A nonnegative real distributes over a finite sum. -/
theorem mul_sum_of_nonneg {ι : Type} (S : Finset ι) (x : EReal) (h : 0 ≤ x) (h' : x ≠ ⊤) (f : ι → EReal) :
    x * ∑ i ∈ S, f i = ∑ i ∈ S, x * f i := by
  classical
  induction S using Finset.induction_on with
  | empty => simp
  | insert i S hi ih => rw [Finset.sum_insert hi, Finset.sum_insert hi, EReal.left_distrib_of_nonneg_of_ne_top h h', ih]

variable {ι : Type} [DecidableEq ι]

/-- The maximum score of a part, its normaliser, and its weighted sum. -/
def top (s : ι → EReal) (S : Finset ι) : EReal := S.fold max ⊥ s
def norm (s : ι → EReal) (S : Finset ι) : EReal := ∑ i ∈ S, Ideal.exp (s i - top s S)
def wsum (s v : ι → EReal) (S : Finset ι) : EReal := ∑ i ∈ S, Ideal.exp (s i - top s S) * v i

/-- The softmax average over a part. -/
def avg (s v : ι → EReal) (S : Finset ι) : EReal := Ideal.div (wsum s v S) (norm s S)

theorem top_empty (s : ι → EReal) : top s ∅ = ⊥ := rfl
theorem norm_empty (s : ι → EReal) : norm s ∅ = 0 := rfl
theorem wsum_empty (s v : ι → EReal) : wsum s v ∅ = 0 := rfl

theorem le_top (s : ι → EReal) (S : Finset ι) (i : ι) (h : i ∈ S) : s i ≤ top s S :=
  (Finset.fold_op_rel_iff_or (op := max) (r := fun x y => x ≤ y) (by intro x y z; exact le_max_iff)).mpr (Or.inr ⟨i, h, le_refl _⟩)

theorem top_union (s : ι → EReal) (S T : Finset ι) (h : Disjoint S T) : top s (S ∪ T) = max (top s S) (top s T) := by
  have := Finset.fold_disjUnion (op := max) (f := s) (b₁ := (⊥ : EReal)) (b₂ := ⊥) h
  rw [max_self, Finset.disjUnion_eq_union] at this
  exact this

/-- The sum of a part's weights against a higher maximum is the part's own sum, rescaled. -/
theorem rescale (s f : ι → EReal) (S : Finset ι) (b : EReal) (h : top s S ≤ b) :
    factor (top s S) b * ∑ i ∈ S, Ideal.exp (s i - top s S) * f i = ∑ i ∈ S, Ideal.exp (s i - b) * f i := by
  obtain ⟨h0, h1⟩ := factor_real h
  rw [mul_sum_of_nonneg S _ h0 h1]
  exact Finset.sum_congr rfl fun i hi => by rw [← mul_assoc, factor_exp (le_top s S i hi) h]

/-- The weighted sum of two parts together. -/
theorem wsum_union (s v : ι → EReal) (S T : Finset ι) (h : Disjoint S T) :
    wsum s v (S ∪ T) = factor (top s S) (top s (S ∪ T)) * wsum s v S + ∑ i ∈ T, Ideal.exp (s i - top s (S ∪ T)) * v i := by
  unfold wsum
  rw [rescale s v S _ (by rw [top_union s S T h]; exact le_max_left _ _), Finset.sum_union h]

/-- The normaliser of two parts together. -/
theorem norm_union (s : ι → EReal) (S T : Finset ι) (h : Disjoint S T) :
    norm s (S ∪ T) = factor (top s S) (top s (S ∪ T)) * norm s S + ∑ i ∈ T, Ideal.exp (s i - top s (S ∪ T)) := by
  have e : ∀ (b : EReal) (S : Finset ι), ∑ i ∈ S, Ideal.exp (s i - b) = ∑ i ∈ S, Ideal.exp (s i - b) * 1 :=
    fun b S => Finset.sum_congr rfl fun i _ => (mul_one _).symm
  have := wsum_union s (fun _ => 1) S T h
  unfold wsum at this
  unfold norm
  rw [e, e, e]
  exact this

end Cert.Softmax
-- ==== Proof.RefAttn.lean ====
/- What the reference's attention output holds: the softmax average over all the cached tokens and the new one. -/
module

public import proofs.«01_k».proof.Proof.RefQuant
public import proofs.«01_k».proof.Proof.Softmax

@[expose] public section

set_option maxRecDepth 16384

noncomputable section

namespace Cert.ReferenceIdeal.Attn

open Idealize.ShloMosaic Idealize.ShloMosaic.TcCoe
open Cert.ReferenceIdeal.Gen

/-! ## The arrays the reference passes through -/

/-- The dequantised cache, with the new token's dequantised rows after it. -/
def refRows (C : IVec S32x16384x2x128 8) (S : FVec Ideal S32x16384x2 .f32) (x : FVec Ideal S32x1x2x128 .f32) :
    FVec Ideal S32x16385x2x128 .bf16 :=
  concatenate S32x16385x2x128 1
    [⟨S32x16384x2x128, (mulf (sitofp (F := Ideal) .bf16 (extsi 32 C natLt_8_32))
      (broadcastInDim S32x16384x2x128 ![0, 1, 2, 3] bcast_S32x16384x2x1_S32x16384x2x128_0_1_2_3
        (broadcastInDim S32x16384x2x1 ![0, 1, 2] bcast_S32x16384x2_S32x16384x2x1_0_1_2 (truncf .bf16 S bitsLt_bf16_f32))))⟩,
     ⟨S32x1x2x128, (mulf (sitofp (F := Ideal) .bf16 (extsi 32 (refCodes x) natLt_8_32))
      (broadcastInDim S32x1x2x128 ![0, 1, 2, 3] bcast_S32x1x2x1_S32x1x2x128_0_1_2_3
        (broadcastInDim S32x1x2x1 ![0, 1, 2] bcast_S32x1x2_S32x1x2x1_0_1_2 (truncf .bf16 (refScales x) bitsLt_bf16_f32))))⟩]
    concatenates_S32x16384x2x128_S32x1x2x128_S32x16385x2x128_d1

/-- The scores. -/
def refScores (X : FVec Ideal S32x1x2048 .f32) (R : FVec Ideal S32x16385x2x128 .bf16) : FVec Ideal S32x2x8x16385 .f32 :=
  mulf (Host.dotGeneral dot_S32x2x8x128_S32x16385x2x128_S32x2x8x16385_3_3_2_1_01_02 none
      (truncf .bf16 (shapeCast S32x2x8x128 X shapeCasts_S32x1x2048_S32x2x8x128) bitsLt_bf16_f32) R)
    (broadcastInDim S32x2x8x16385 ![] bcast_S_S32x2x8x16385 (constant (F := Ideal) S_ .f32 0x3DB504F3#32))

/-- The largest score of each row. -/
def refMax (s : FVec Ideal S32x2x8x16385 .f32) : FVec Ideal S32x2x8 .f32 :=
  Host.reduce FloatOps.maximumf s (constant (F := Ideal) S_ .f32 0xFF800000#32) reducesTo_S32x2x8x16385_S32x2x8_d3 h_S_

/-- The weights. -/
def refExp (s : FVec Ideal S32x2x8x16385 .f32) : FVec Ideal S32x2x8x16385 .f32 :=
  Host.exp (subf s (broadcastInDim S32x2x8x16385 ![0, 1, 2, 3] bcast_S32x2x8x1_S32x2x8x16385_0_1_2_3
    (broadcastInDim S32x2x8x1 ![0, 1, 2] bcast_S32x2x8_S32x2x8x1_0_1_2 (refMax s))))

/-- The weighted averages. -/
def refAvg (p : FVec Ideal S32x2x8x16385 .f32) (R : FVec Ideal S32x16385x2x128 .bf16) : FVec Ideal S32x2x8x128 .f32 :=
  Host.divf (Host.dotGeneral dot_S32x2x8x16385_S32x16385x2x128_S32x2x8x128_3_1_2_3_01_02 none (truncf .bf16 p bitsLt_bf16_f32) R)
    (broadcastInDim S32x2x8x128 ![0, 1, 2, 3] bcast_S32x2x8x1_S32x2x8x128_0_1_2_3
      (broadcastInDim S32x2x8x1 ![0, 1, 2] bcast_S32x2x8_S32x2x8x1_0_1_2
        (Host.reduceAdd p (constant (F := Ideal) S_ .f32 0x00000000#32) reducesTo_S32x2x8x16385_S32x2x8_d3 h_S_)))

variable (m : (ℓ : Loc nD τ sig) → Buf (Elt Ideal) ℓ) (c : Dev nD)

/-- The attention output, of the arguments. -/
def refOut (X : FVec Ideal S32x1x2048 .f32) (K V : FVec Ideal S32x1x2x128 .f32) (Kc : IVec S32x16384x2x128 8)
    (Ks : FVec Ideal S32x16384x2 .f32) (Vc : IVec S32x16384x2x128 8) (Vs : FVec Ideal S32x16384x2 .f32) : FVec Ideal S32x1x2048 .f32 :=
  shapeCast S32x1x2048 (refAvg (refExp (refScores X (refRows Kc Ks K))) (refRows Vc Vs V)) shapeCasts_S32x2x8x128_S32x1x2048

theorem res_eq : Value.res_main_v70 (F := Ideal) m c = refOut (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := rfl

/-! ## Entry by entry -/

/-- A row of all the tokens' keys or values: cached, or the new token's. -/
def tokens (C : IVec S32x16384x2x128 8) (S : FVec Ideal S32x16384x2 .f32) (x : FVec Ideal S32x1x2x128 .f32)
    (b : Fin 32) (h : Fin 2) (i : Fin 16385) (d : Fin 128) : EReal :=
  if hi : i.val < 16384 then (((C (ix4 b ⟨i.val, hi⟩ h d)).toInt : ℝ) : EReal) * S (ix3 b ⟨i.val, hi⟩ h)
  else Quant.value (row x b h) d

/-- A code widened to 32 bits is the same whole number. -/
theorem widen (w : BitVec 8) : FloatOps.sitofp (F := Ideal) .bf16 (BitVec.signExtend 32 w) = ((w.toInt : ℝ) : EReal) := by
  show (((BitVec.signExtend 32 w).toInt : ℝ) : EReal) = _
  rw [BitVec.toInt_signExtend_of_le (by decide)]

theorem refRows_entry (C : IVec S32x16384x2x128 8) (S : FVec Ideal S32x16384x2 .f32) (x : FVec Ideal S32x1x2x128 .f32)
    (b : Fin 32) (i : Fin 16385) (h : Fin 2) (d : Fin 128) :
    refRows C S x (ix4 b i h d) = tokens C S x b h i d := by
  pointwise [refRows, refScales_entry, tokens, Quant.value]
  split
  · rw [widen]
  · rw [widen]
    exact congrArg (fun w : BitVec 8 => ((w.toInt : ℝ) : EReal) * Quant.scale (row x b h))
      ((congrArg (refCodes x) (congrArg (fun z => ix4 b z h d) (Subsingleton.elim _ _))).trans (refCodes_entry x b h d))

theorem refScores_entry (X : FVec Ideal S32x1x2048 .f32) (R : FVec Ideal S32x16385x2x128 .bf16)
    (b : Fin 32) (h : Fin 2) (g : Fin 8) (i : Fin 16385) :
    refScores X R (ix4 b h g i)
      = (∑ d : Fin 128, X (ix3 b 0 ⟨h.val * 1024 + g.val * 128 + d.val, by omega⟩) * R (ix4 b i h d)) * Ideal.ofBits .f32 0x3DB504F3#32 := by
  pointwise [refScores]

theorem refMax_entry (s : FVec Ideal S32x2x8x16385 .f32) (b : Fin 32) (h : Fin 2) (g : Fin 8) :
    refMax s (ix3 b h g) = Softmax.top (fun i : Fin 16385 => s (ix4 b h g i)) Finset.univ := by
  pointwise [refMax, ofBits_neg_inf, Softmax.top]

theorem refExp_entry (s : FVec Ideal S32x2x8x16385 .f32) (b : Fin 32) (h : Fin 2) (g : Fin 8) (i : Fin 16385) :
    refExp s (ix4 b h g i) = Ideal.exp (s (ix4 b h g i) - Softmax.top (fun i : Fin 16385 => s (ix4 b h g i)) Finset.univ) := by
  pointwise [refExp, refMax_entry]

theorem refAvg_entry (p : FVec Ideal S32x2x8x16385 .f32) (R : FVec Ideal S32x16385x2x128 .bf16)
    (b : Fin 32) (h : Fin 2) (g : Fin 8) (d : Fin 128) :
    refAvg p R (ix4 b h g d) = Ideal.div (∑ i : Fin 16385, p (ix4 b h g i) * R (ix4 b i h d)) (∑ i : Fin 16385, p (ix4 b h g i)) := by
  pointwise [refAvg]

/-- The score of a query row against a token's key. -/
def tokScore (X : FVec Ideal S32x1x2048 .f32) (K : FVec Ideal S32x1x2x128 .f32) (Kc : IVec S32x16384x2x128 8)
    (Ks : FVec Ideal S32x16384x2 .f32) (b : Fin 32) (h : Fin 2) (g : Fin 8) (i : Fin 16385) : EReal :=
  (∑ d : Fin 128, X (ix3 b 0 ⟨h.val * 1024 + g.val * 128 + d.val, by omega⟩) * tokens Kc Ks K b h i d) * Ideal.ofBits .f32 0x3DB504F3#32

/-- The average of a row before the last reshape is the softmax average over all the tokens. -/
theorem refAvg_eq (X : FVec Ideal S32x1x2048 .f32) (K V : FVec Ideal S32x1x2x128 .f32) (Kc : IVec S32x16384x2x128 8)
    (Ks : FVec Ideal S32x16384x2 .f32) (Vc : IVec S32x16384x2x128 8) (Vs : FVec Ideal S32x16384x2 .f32)
    (b : Fin 32) (h : Fin 2) (g : Fin 8) (d : Fin 128) :
    refAvg (refExp (refScores X (refRows Kc Ks K))) (refRows Vc Vs V) (ix4 b h g d)
      = Softmax.avg (tokScore X K Kc Ks b h g) (fun i => tokens Vc Vs V b h i d) Finset.univ := by
  have e : ∀ i, refScores X (refRows Kc Ks K) (ix4 b h g i) = tokScore X K Kc Ks b h g i := fun i => by
    rw [refScores_entry]; unfold tokScore; simp only [refRows_entry]
  rw [refAvg_entry]
  simp only [refExp_entry, e, refRows_entry]
  rfl

end Cert.ReferenceIdeal.Attn
-- ==== Proof.Online.lean ====
/- The running quantities are those of the tokens seen so far, and a batch's output block is the softmax average over all
   its tokens. -/
module

public import proofs.«01_k».proof.Proof.Blocks
public import proofs.«01_k».proof.Proof.RefAttn

@[expose] public section

set_option maxRecDepth 16384

noncomputable section

namespace Cert.KernelIdeal.Attn

open Idealize.ShloMosaic Idealize.ShloMosaic.TcCoe Idealize.ShloMosaic.Tactic
open Cert.KernelIdeal.Gen
open Cert.ReferenceIdeal.Attn (tokens tokScore)

variable (m : (ℓ : Loc nD τ sig) → Buf (Elt Ideal) ℓ) (c : Dev nD)

/-! ## The tokens -/

/-- The scores of row `r` of batch `b` against all tokens, and one lane of the tokens' values. -/
def tS (b : Fin 32) (r : Fin 16) : Fin 16385 → EReal := tokScore (argX m c) (argK m c) (argKc m c) (argKs m c) b (rowH r) (rowG r)
def tV (b : Fin 32) (r : Fin 16) (d : Fin 128) : Fin 16385 → EReal := fun i => tokens (argVc m c) (argVs m c) (argV m c) b (rowH r) i d

/-- The token at row `k` of point `t`'s block. -/
def tok (t : Fin cfg0.N) : Fin 2048 ↪ Fin 16385 where
  toFun k := (pos t k).castSucc
  inj' k k' h := Fin.ext (by have := congrArg Fin.val h; simp only [pos, Fin.val_castSucc] at this; omega)

theorem tok_val (t : Fin cfg0.N) (k : Fin 2048) : (tok t k).val = t.val % 8 * 2048 + k.val := rfl

/-- The tokens of the first `n` blocks, and those of point `t`'s block. -/
def seen (n : ℕ) : Finset (Fin 16385) := Finset.univ.filter fun i => i.val < n * 2048
def here (t : Fin cfg0.N) : Finset (Fin 16385) := Finset.univ.map (tok t)

theorem mem_seen (n : ℕ) (i : Fin 16385) : i ∈ seen n ↔ i.val < n * 2048 := by simp [seen]
theorem mem_here (t : Fin cfg0.N) (i : Fin 16385) : i ∈ here t ↔ t.val % 8 * 2048 ≤ i.val ∧ i.val < (t.val % 8 + 1) * 2048 := by
  simp only [here, Finset.mem_map, Finset.mem_univ, true_and]
  constructor
  · rintro ⟨k, rfl⟩; rw [tok_val]; omega
  · rintro ⟨h0, h1⟩
    exact ⟨⟨i.val - t.val % 8 * 2048, by omega⟩, Fin.ext (by rw [tok_val]; simp only; omega)⟩

theorem seen_zero : seen 0 = ∅ := by ext i; rw [mem_seen]; simp
theorem seen_here (t : Fin cfg0.N) : Disjoint (seen (t.val % 8)) (here t) :=
  Finset.disjoint_left.mpr fun i h h' => by rw [mem_seen] at h; rw [mem_here] at h'; omega
theorem seen_succ (t : Fin cfg0.N) : seen (t.val % 8 + 1) = seen (t.val % 8) ∪ here t := by
  ext i; rw [Finset.mem_union, mem_seen, mem_seen, mem_here]; omega

theorem sum_here (t : Fin cfg0.N) (f : Fin 16385 → EReal) : ∑ i ∈ here t, f i = ∑ k : Fin 2048, f (tok t k) :=
  Finset.sum_map _ _ _
theorem top_here (t : Fin cfg0.N) (s : Fin 16385 → EReal) : Softmax.top s (here t) = Finset.univ.fold max ⊥ fun k => s (tok t k) :=
  Finset.fold_map

/-- The new token comes last. -/
theorem seen_all : (Finset.univ : Finset (Fin 16385)) = seen 8 ∪ {Fin.last 16384} := by
  ext i
  simp only [Finset.mem_univ, Finset.mem_union, mem_seen, Finset.mem_singleton, true_iff, Fin.ext_iff, Fin.val_last]
  omega
theorem seen_last : Disjoint (seen 8) {Fin.last 16384} :=
  Finset.disjoint_left.mpr fun i h h' => by
    rw [mem_seen] at h; rw [Finset.mem_singleton, Fin.ext_iff, Fin.val_last] at h'; omega

/-! ## A block's scores and values are its tokens' -/

theorem tokens_tok (C : IVec S32x16384x2x128 8) (S : FVec Ideal S32x16384x2 .f32) (x : FVec Ideal S32x1x2x128 .f32)
    (b : Fin 32) (h : Fin 2) (t : Fin cfg0.N) (k : Fin 2048) (d : Fin 128) :
    tokens C S x b h (tok t k) d = (((C (ix4 b (pos t k) h d)).toInt : ℝ) : EReal) * S (ix3 b (pos t k) h) :=
  dif_pos (pos t k).isLt

theorem scores_tok (t : Fin cfg0.N) (r : Fin 16) (k : Fin 2048) :
    scores (blkQ m c t) (blkKc m c t) (blkKs m c t) r k = tS m c (batch t) r (tok t k) := by
  unfold scores score deq tS tokScore
  simp only [blkQ_entry, blkKc_entry, blkKs_entry]
  refine congrArg (· * scale) (Finset.sum_congr rfl fun d _ => congrArg _ ?_)
  exact (tokens_tok _ _ _ _ _ _ _ _).symm

theorem values_tok (t : Fin cfg0.N) (r : Fin 16) (k : Fin 2048) (d : Fin 128) :
    deq (blkVc m c t) (blkVs m c t) (rowH r) k d = tV m c (batch t) r d (tok t k) := by
  unfold deq tV
  rw [blkVc_entry, blkVs_entry]
  exact (tokens_tok _ _ _ _ _ _ _ _).symm

/-! ## The invariant -/

/-- The running quantities of batch `b` after its first `n` blocks. -/
structure Inv (p : Three) (b : Fin 32) (n : ℕ) : Prop where
  top : ∀ r z, p.1 (ix2 r z) = Softmax.top (tS m c b r) (seen n)
  norm : ∀ r z, p.2.1 (ix2 r z) = Softmax.norm (tS m c b r) (seen n)
  wsum : ∀ r d, p.2.2 (ix2 r d) = Softmax.wsum (tS m c b r) (tV m c b r d) (seen n)

theorem inv_start (b : Fin 32) : Inv m c start b 0 := by
  constructor
  · intro r z; rw [seen_zero]; rfl
  · intro r z; rw [seen_zero]; rfl
  · intro r d; rw [seen_zero]; rfl

theorem newM_eq (t : Fin cfg0.N) (r : Fin 16) :
    newM (Softmax.top (tS m c (batch t) r) (seen (t.val % 8))) (scores (blkQ m c t) (blkKc m c t) (blkKs m c t) r)
      = Softmax.top (tS m c (batch t) r) (seen (t.val % 8 + 1)) := by
  rw [seen_succ, Softmax.top_union _ _ _ (seen_here t), top_here]
  unfold newM
  rw [show scores (blkQ m c t) (blkKc m c t) (blkKs m c t) r = fun k => tS m c (batch t) r (tok t k) from
    funext (scores_tok m c t r)]

/-- One point carries the invariant over its block. -/
theorem inv_fold (t : Fin cfg0.N) (p : Three) (h : Inv m c p (batch t) (t.val % 8)) :
    Inv m c (fold m c t p) (batch t) (t.val % 8 + 1) := by
  constructor
  · intro r z
    show newM (p.1 (ix2 r z)) (scores (blkQ m c t) (blkKc m c t) (blkKs m c t) r) = _
    rw [h.top, newM_eq]
  · intro r z
    show newL (p.1 (ix2 r z)) (p.2.1 (ix2 r z)) (scores (blkQ m c t) (blkKc m c t) (blkKs m c t) r) = _
    unfold newL
    rw [h.top, h.norm, newM_eq, seen_succ, Softmax.norm_union _ _ _ (seen_here t), sum_here, ← seen_succ]
    simp only [scores_tok]
    rfl
  · intro r d
    show newA (p.1 (ix2 r 0)) (p.2.2 (ix2 r d)) (scores (blkQ m c t) (blkKc m c t) (blkKs m c t) r)
      (fun k => deq (blkVc m c t) (blkVs m c t) (rowH r) k d) = _
    unfold newA
    rw [h.top, h.wsum, newM_eq, seen_succ, Softmax.wsum_union _ _ _ _ (seen_here t), sum_here, ← seen_succ]
    simp only [scores_tok, values_tok]
    rfl

/-- After every point the running quantities are those of the batch's blocks so far. -/
theorem inv_st : ∀ (n : ℕ) (hn : n < cfg0.N), Inv m c (st m c n hn) (batch ⟨n, hn⟩) (n % 8 + 1)
  | 0, hn => by
    have h := inv_fold m c ⟨0, hn⟩ start (inv_start m c _)
    rw [← st_reset m c ⟨0, hn⟩ rfl] at h
    exact h
  | n + 1, hn => by
    by_cases h8 : (n + 1) % 8 = 0
    · have h := inv_fold m c ⟨n + 1, hn⟩ start (by rw [show (⟨n + 1, hn⟩ : Fin cfg0.N).val % 8 = 0 from h8]; exact inv_start m c _)
      rw [← st_reset m c ⟨n + 1, hn⟩ h8] at h
      exact h
    · have ih := inv_st n (Nat.lt_of_succ_lt hn)
      rw [show batch ⟨n, Nat.lt_of_succ_lt hn⟩ = batch ⟨n + 1, hn⟩ from Fin.ext (by simp only [batch]; omega),
        show n % 8 + 1 = (n + 1) % 8 by omega] at ih
      have h := inv_fold m c ⟨n + 1, hn⟩ _ ih
      have e := st_step m c ⟨n + 1, hn⟩ h8
      rw [show st m c (n + 1) hn = _ from e]
      exact h

/-! ## The new token -/

theorem tokRow_entry (x : FVec Ideal S64x128 .f32) (a : FVec Ideal S32x1x2x128 .f32) (t : Fin cfg0.N)
    (hx : ∀ r d, x (ix2 r d) = a (ix4 ⟨r.val / 2, by omega⟩ 0 ⟨r.val % 2, by omega⟩ d)) (h : Fin 2) (d : Fin 128) :
    tokRow (qValues x) (grid0.coords t) h d = Quant.value (Cert.ReferenceIdeal.Attn.row a (batch t) h) d := by
  have hc : (grid0.coords t 0).val = t.val / 8 % 32 := Pipeline.Grid.coords_val t 0 (by decide) rfl
  have hN : t.val < 256 := lt_of_lt_of_eq t.isLt N_0
  show Quant.value (row x _) d = _
  refine congrArg (Quant.value · d) (funext fun d' => ?_)
  refine (hx _ d').trans ?_
  show _ = a (ix4 (batch t) 0 h d')
  have e1 : ∀ p, (⟨((grid0.coords t 0).val * 2 + h.val) / 2, p⟩ : Fin 32) = batch t := fun p =>
    Fin.ext (by simp only [batch, hc]; omega)
  have e2 : ∀ p, (⟨((grid0.coords t 0).val * 2 + h.val) % 2, p⟩ : Fin 2) = h := fun p => Fin.ext (by simp only; omega)
  exact congrArg₂ (fun y z => a (ix4 y 0 z d')) (e1 _) (e2 _)

theorem tokens_last (C : IVec S32x16384x2x128 8) (S : FVec Ideal S32x16384x2 .f32) (x : FVec Ideal S32x1x2x128 .f32)
    (b : Fin 32) (h : Fin 2) (d : Fin 128) :
    tokens C S x b h (Fin.last 16384) d = Quant.value (Cert.ReferenceIdeal.Attn.row x b h) d :=
  dif_neg (lt_irrefl _)

theorem kNew_row (t : Fin cfg0.N) (h : Fin 2) (d : Fin 128) :
    tokRow (kNew m c) (grid0.coords t) h d = tokens (argKc m c) (argKs m c) (argK m c) (batch t) h (Fin.last 16384) d :=
  (tokRow_entry _ (argK m c) t (blkKn_entry m c p0) h d).trans (tokens_last _ _ _ _ _ _).symm

theorem vNew_row (t : Fin cfg0.N) (h : Fin 2) (d : Fin 128) :
    tokRow (vNew m c) (grid0.coords t) h d = tokens (argVc m c) (argVs m c) (argV m c) (batch t) h (Fin.last 16384) d :=
  (tokRow_entry _ (argV m c) t (blkVn_entry m c p0) h d).trans (tokens_last _ _ _ _ _ _).symm

/-- The block a batch's last point stores is the softmax average over all the batch's tokens. -/
theorem yAt_entry (t : Fin cfg0.N) (h7 : t.val % 8 = 7) (z : Fin 1) (r : Fin 16) (d : Fin 128) :
    yAt m c t (ix3 z r d) = Softmax.avg (tS m c (batch t) r) (tV m c (batch t) r d) Finset.univ := by
  have inv := inv_st m c t.val t.isLt
  rw [h7] at inv
  show lastY ((st m c t.val t.isLt).1 (ix2 r 0)) ((st m c t.val t.isLt).2.1 (ix2 r 0)) ((st m c t.val t.isLt).2.2 (ix2 r d))
    (score (fun d => blkQ m c t (ix4 0 (rowH r) (rowG r) d)) (tokRow (kNew m c) (grid0.coords t) (rowH r)))
    (tokRow (vNew m c) (grid0.coords t) (rowH r) d) = _
  rw [inv.top, inv.norm, inv.wsum]
  rw [show score (fun d => blkQ m c t (ix4 0 (rowH r) (rowG r) d)) (tokRow (kNew m c) (grid0.coords t) (rowH r))
      = tS m c (batch t) r (Fin.last 16384) by
    unfold score tS tokScore
    simp only [blkQ_entry, kNew_row]
    rfl, vNew_row]
  show lastY _ _ _ _ (tV m c (batch t) r d (Fin.last 16384)) = _
  have ht : Softmax.top (tS m c (batch t) r) {Fin.last 16384} = tS m c (batch t) r (Fin.last 16384) := by
    unfold Softmax.top
    rw [Finset.fold_singleton]
    exact max_eq_left bot_le
  unfold lastY Softmax.avg
  rw [seen_all, Softmax.wsum_union _ _ _ _ seen_last, Softmax.norm_union _ _ _ seen_last, Softmax.top_union _ _ _ seen_last, ht,
    Finset.sum_singleton, Finset.sum_singleton]
  rfl

end Cert.KernelIdeal.Attn
-- ==== Proof.Arrays.lean ====
/- What the output windows' arrays hold after the region. -/
module

public import proofs.«01_k».proof.Proof.Online

@[expose] public section

set_option maxRecDepth 16384

noncomputable section

namespace Cert.KernelIdeal.Attn

open Idealize.ShloMosaic Idealize.ShloMosaic.TcCoe Idealize.ShloMosaic.Tactic
open Cert.KernelIdeal.Gen

variable (m : (ℓ : Loc nD τ sig) → Buf (Elt Ideal) ℓ) (c : Dev nD)

/-- The attention output before the last reshape: one row per batch and query head. -/
def outY : FVec Ideal S32x16x128 .f32 := fun j =>
  Softmax.avg (tS m c (j 0) (j 1)) (tV m c (j 0) (j 1) (j 2)) Finset.univ

theorem arr7 : (dats m 0 c).arrAt 7 cfg0.N = outY m c := by
  refine (dats m 0 c).arrAt_eq_of_covers 7 _ (by decide +kernel) fun t hf y => ?_
  blk_simp
  rw [after0_7]
  idx_vars y
  refine (yAt_entry m c t ((flush0_7 t).mp hf) _ _ _).trans ?_
  show outY m c (ix3 (batch t) _ _) = _
  generalize outY m c = G
  blk_ext [idx t, batch]

theorem arr8 : (dats m 0 c).arrAt 8 cfg0.N = qCodes (blkKn m c p0) := by
  refine (dats m 0 c).arrAt_eq_of_covers 8 _ (by decide +kernel) fun t hf y => ?_
  blk_simp
  rw [after0_8]
  blk_ext [idx t]

theorem arr9 : (dats m 0 c).arrAt 9 cfg0.N = qScales (blkKn m c p0) := by
  refine (dats m 0 c).arrAt_eq_of_covers 9 _ (by decide +kernel) fun t hf y => ?_
  blk_simp
  rw [after0_9]
  blk_ext [idx t]

theorem arr10 : (dats m 0 c).arrAt 10 cfg0.N = qCodes (blkVn m c p0) := by
  refine (dats m 0 c).arrAt_eq_of_covers 10 _ (by decide +kernel) fun t hf y => ?_
  blk_simp
  rw [after0_10]
  blk_ext [idx t]

theorem arr11 : (dats m 0 c).arrAt 11 cfg0.N = qScales (blkVn m c p0) := by
  refine (dats m 0 c).arrAt_eq_of_covers 11 _ (by decide +kernel) fun t hf y => ?_
  blk_simp
  rw [after0_11]
  blk_ext [idx t]

end Cert.KernelIdeal.Attn
-- ==== Proof.Equal.lean ====
/- The five results of the kernel are the five results of the reference, as terms over the same arguments. -/
module

public import proofs.«01_k».proof.Proof.Results
public import proofs.«01_k».proof.Proof.Arrays

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen
open Cert.ReferenceIdeal.Attn (refOut refCodes refScales refAvg refExp refScores refRows refAvg_eq refCodes_entry refScales_entry)

/-- The attention output before its last reshape, at a head and a place in its group. -/
theorem outY_row (m : (ℓ : Loc nD τ sig) → Buf (Elt Ideal) ℓ) (c : Dev nD) (b : Fin 32) (r : Fin 16) (d : Fin 128) :
    outY m c (ix3 b r d) = refAvg (refExp (refScores (argX m c) (refRows (argKc m c) (argKs m c) (argK m c))))
      (refRows (argVc m c) (argVs m c) (argV m c)) (ix4 b (rowH r) (rowG r) d) :=
  (refAvg_eq _ _ _ _ _ _ _ _ _ _ _).symm

/-- Sixteen rows of 128 and two heads of eight rows of 128 are the same row of 2048. -/
theorem flatten_eq (y : FVec Ideal S32x16x128 .f32) (y' : FVec Ideal S32x2x8x128 .f32)
    (hy : ∀ b r d, y (ix3 b r d) = y' (ix4 b (rowH r) (rowG r) d))
    (hs' : S32x2x8x128.ShapeCasts S32x1x2048) :
    shapeCast S32x1x2048 y shapeCasts_S32x16x128_S32x1x2048 = shapeCast S32x1x2048 y' hs' := by
  funext j
  idx_vars j
  pointwise [hy, rowH, rowG]
  exact congrArg (fun z => y' (ix4 j0 z _ _)) (Fin.ext (by simp only; omega))

/-- The new token's rows, batch and head in one index and apart. -/
theorem row_eq (x : FVec Ideal S64x128 .f32) (a : FVec Ideal S32x1x2x128 .f32)
    (hx : ∀ r d, x (ix2 r d) = a (ix4 ⟨r.val / 2, by omega⟩ 0 ⟨r.val % 2, by omega⟩ d)) (r : Fin 64) :
    row x r = Cert.ReferenceIdeal.Attn.row a ⟨r.val / 2, by omega⟩ ⟨r.val % 2, by omega⟩ :=
  funext fun d => hx r d

theorem codes_eq (x : FVec Ideal S64x128 .f32) (a : FVec Ideal S32x1x2x128 .f32)
    (hx : ∀ r d, x (ix2 r d) = a (ix4 ⟨r.val / 2, by omega⟩ 0 ⟨r.val % 2, by omega⟩ d)) :
    shapeCast S32x1x2x128 (qCodes x) shapeCasts_S64x128_S32x1x2x128 = refCodes a := by
  have h : ∀ r d, qCodes x (ix2 r d) = refCodes a (ix4 ⟨r.val / 2, by omega⟩ 0 ⟨r.val % 2, by omega⟩ d) := fun r d => by
    rw [refCodes_entry]
    show Quant.code (row x r) d = _
    rw [row_eq x a hx]
  generalize qCodes x = q at h
  generalize refCodes a = q' at h
  funext j
  idx_vars j
  pointwise [h]
  refine (congrArg₂ (fun y z => q' (ix4 y 0 z j3)) (Fin.ext (by simp only; omega)) (Fin.ext (by simp only; omega))).trans
    (congrArg (fun z => q' (ix4 j0 z j2 j3)) (Subsingleton.elim _ _))

theorem scales_eq (x : FVec Ideal S64x128 .f32) (a : FVec Ideal S32x1x2x128 .f32)
    (hx : ∀ r d, x (ix2 r d) = a (ix4 ⟨r.val / 2, by omega⟩ 0 ⟨r.val % 2, by omega⟩ d)) :
    shapeCast S32x1x2 (qScales x) shapeCasts_S64x1_S32x1x2 = refScales a := by
  have h : ∀ r z, qScales x (ix2 r z) = refScales a (ix3 ⟨r.val / 2, by omega⟩ 0 ⟨r.val % 2, by omega⟩) := fun r z => by
    rw [refScales_entry]
    show Quant.scale (row x r) = _
    rw [row_eq x a hx]
  generalize qScales x = q at h
  generalize refScales a = q' at h
  funext j
  idx_vars j
  pointwise [h]
  refine (congrArg₂ (fun y z => q' (ix3 y 0 z)) (Fin.ext (by simp only; omega)) (Fin.ext (by simp only; omega))).trans
    (congrArg (fun z => q' (ix3 j0 z j2)) (Subsingleton.elim _ _))

variable (m : (ℓ : Loc nD τ sig) → Buf (Elt Ideal) ℓ) (ρ : Dev nD → PrngReg) (c : Dev nD)

/-- What the host operations after the region leave in a buffer. -/
abbrev last (b : Ref sig .tc) := Pipeline.afterTail₀ cfgs (dats m) 0 (V0 m) [hostOps1] c b

theorem eq_v9 : last m c main_v9
    = refOut (argX m c) (argK m c) (argV m c) (argKc m c) (argKs m c) (argVc m c) (argVs m c) :=
  (out_v9 m c).trans ((congrArg (fun z : FVec Ideal S32x16x128 .f32 => shapeCast S32x1x2048 z shapeCasts_S32x16x128_S32x1x2048) (arr7 m c)).trans
    (flatten_eq _ _ (outY_row m c) _))

theorem eq_v10 : last m c main_v10 = refCodes (argK m c) :=
  (out_v10 m c).trans ((congrArg (fun z : IVec S64x128 8 => shapeCast S32x1x2x128 z shapeCasts_S64x128_S32x1x2x128) (arr8 m c)).trans
    (codes_eq _ _ (blkKn_entry m c p0)))

theorem eq_v11 : last m c main_v11 = refScales (argK m c) :=
  (out_v11 m c).trans ((congrArg (fun z : FVec Ideal S64x1 .f32 => shapeCast S32x1x2 z shapeCasts_S64x1_S32x1x2) (arr9 m c)).trans
    (scales_eq _ _ (blkKn_entry m c p0)))

theorem eq_v12 : last m c main_v12 = refCodes (argV m c) :=
  (out_v12 m c).trans ((congrArg (fun z : IVec S64x128 8 => shapeCast S32x1x2x128 z shapeCasts_S64x128_S32x1x2x128) (arr10 m c)).trans
    (codes_eq _ _ (blkVn_entry m c p0)))

theorem eq_v13 : last m c main_v13 = refScales (argV m c) :=
  (out_v13 m c).trans ((congrArg (fun z : FVec Ideal S64x1 .f32 => shapeCast S32x1x2 z shapeCasts_S64x1_S32x1x2) (arr11 m c)).trans
    (scales_eq _ _ (blkVn_entry m c p0)))

/-- Every execution ends with the five results at the reference's terms of the arguments, the arguments unchanged. -/
theorem run_values : θ_run defs (onTc (τ := τ) (main (F := Ideal))) ⟨m, fun _ => 0, ρ⟩ (fun r => ∀ c : Dev nD,
      r.2.mem ((c.tc : Thread nD τ).loc main_v9) = refOut (argX m c) (argK m c) (argV m c) (argKc m c) (argKs m c) (argVc m c) (argVs m c)
      ∧ r.2.mem ((c.tc : Thread nD τ).loc main_v10) = refCodes (argK m c)
      ∧ r.2.mem ((c.tc : Thread nD τ).loc main_v11) = refScales (argK m c)
      ∧ r.2.mem ((c.tc : Thread nD τ).loc main_v12) = refCodes (argV m c)
      ∧ r.2.mem ((c.tc : Thread nD τ).loc main_v13) = refScales (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h.1 c).2 main_v9 (Pipeline.mem_restRefs_of main_v9 (by decide) (by decide))).trans (eq_v9 m c),
       ((h.1 c).2 main_v10 (Pipeline.mem_restRefs_of main_v10 (by decide) (by decide))).trans (eq_v10 m c),
       ((h.1 c).2 main_v11 (Pipeline.mem_restRefs_of main_v11 (by decide) (by decide))).trans (eq_v11 m c),
       ((h.1 c).2 main_v12 (Pipeline.mem_restRefs_of main_v12 (by decide) (by decide))).trans (eq_v12 m c),
       ((h.1 c).2 main_v13 (Pipeline.mem_restRefs_of main_v13 (by decide) (by decide))).trans (eq_v13 m c),
       h.2 c⟩)
    (θ_run_and (run_main m ρ) (frame_of m ρ (dats m) (A_eq m) (run_main m ρ)))

end Cert.KernelIdeal.Attn
-- ==== Proof.AnyRun.lean ====
/- The kernel's run at any number format, with nothing said of what it computes: the four cases of its body again give
   their buffers back at some contents, so every execution ends with the arguments unchanged and every semaphore at zero. -/
module

public import proofs.«01_k».proof.Proof.RunFirst
public import proofs.«01_k».proof.Proof.RunReset
public import proofs.«01_k».proof.Proof.RunStep
public import proofs.«01_k».proof.Proof.RunLast
public import Idealize.ShloMosaic.Lib.Claim

@[expose] public section

set_option maxRecDepth 16384

noncomputable section

namespace Cert.KernelIdeal.AnyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Attn

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The five output windows, of which nothing is said. -/
def outs : Fin 12 → Bool := fun w => w.val == 7 || w.val == 8 || w.val == 9 || w.val == 10 || w.val == 11

/-- Between points: the scratch buffers at some contents; the inputs at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (w : Fin cfg0.W) : (dats m 0 c).A w = V m c (Pipeline.arrRef spec0 w) := by
  dsimp only [dats]

theorem Phi_eq (t : Fin (cfg0.N + 1)) : (dats m 0 c).Φ t = Pipeline.ΦA spec0 c := by
  dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]

theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d
theorem before2 (t : Fin cfg0.N) (d) : (dats m 0 c).before 2 t d = iblk m c 2 t :=
  before0_2_of m (dats m 0 c) (A_eq m c 2) (after2 m c) t d
theorem before3 (t : Fin cfg0.N) (d) : (dats m 0 c).before 3 t d = iblk m c 3 t :=
  before0_3_of m (dats m 0 c) (A_eq m c 3) (after3 m c) t d
theorem before4 (t : Fin cfg0.N) (d) : (dats m 0 c).before 4 t d = iblk m c 4 t :=
  before0_4_of m (dats m 0 c) (A_eq m c 4) (after4 m c) t d
theorem before5 (t : Fin cfg0.N) (d) : (dats m 0 c).before 5 t d = iblk m c 5 t :=
  before0_5_of m (dats m 0 c) (A_eq m c 5) (after5 m c) t d
theorem before6 (t : Fin cfg0.N) (d) : (dats m 0 c).before 6 t d = iblk m c 6 t :=
  before0_6_of m (dats m 0 c) (A_eq m c 6) (after6 m c) t d

theorem leaves0 (t : Fin cfg0.N) : (dats m 0 c).leavesExact 0 t = owns (c : Thread nD τ) (ms0_0 t) fullShare (iblk m c 0 t) := by
  rw [← after0 m c t]
theorem leaves1 (t : Fin cfg0.N) : (dats m 0 c).leavesExact 1 t = owns (c : Thread nD τ) (ms0_1 t) fullShare (iblk m c 1 t) := by
  rw [← after1 m c t]
theorem leaves2 (t : Fin cfg0.N) : (dats m 0 c).leavesExact 2 t = owns (c : Thread nD τ) (ms0_2 t) fullShare (iblk m c 2 t) := by
  rw [← after2 m c t]
theorem leaves3 (t : Fin cfg0.N) : (dats m 0 c).leavesExact 3 t = owns (c : Thread nD τ) (ms0_3 t) fullShare (iblk m c 3 t) := by
  rw [← after3 m c t]
theorem leaves4 (t : Fin cfg0.N) : (dats m 0 c).leavesExact 4 t = owns (c : Thread nD τ) (ms0_4 t) fullShare (iblk m c 4 t) := by
  rw [← after4 m c t]
theorem leaves5 (t : Fin cfg0.N) : (dats m 0 c).leavesExact 5 t = owns (c : Thread nD τ) (ms0_5 t) fullShare (iblk m c 5 t) := by
  rw [← after5 m c t]
theorem leaves6 (t : Fin cfg0.N) : (dats m 0 c).leavesExact 6 t = owns (c : Thread nD τ) (ms0_6 t) fullShare (iblk m c 6 t) := by
  rw [← after6 m c t]

/-- A buffer after any stores holds something. -/
theorem some_contents {S : Shape} {e : EltTy} (a : Memref sig .tc .vmem S e) (L : List (View.Piece (Elt F) S e)) :
    iprop(∃ f, a.view.loc (c : Thread nD τ) ↦[a.view.set]{fullShare} a.view.writes (Elt F) f L) ⊢
      (iprop(∃ d, owns (c : Thread nD τ) a fullShare d) : sProp 𝕄) := by
  iintro ⟨%f, H⟩
  iexists _
  unfold owns
  iexists _
  isplitr
  swap; · iexact H
  ipureintro; rfl

/-- What the body is called with at a point, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The very first point. -/
theorem body_first (t : Fin cfg0.N) (h0 : t.val % 256 = 0) (h1 : t.val % 8 = 0) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, Phi_eq, Phi_eq, PhiA0_eq,
    leaves0, leaves1, leaves2, leaves3, leaves4, leaves5, leaves6]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply ((runFirst c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2.2.2.2.2.2 Set.univ (fun _ => _))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, H10, H11, H12, H13, H14, H15, H16, H17, H18⟩
  isplitl [H14 H15 H16 H17 H18 Hg]
  · isplitl [H14 H15 H16 H17 H18]
    · isplitl [H14]; · iapply (some_contents c _ _); iexact H14
      isplitl [H15]; · iapply (some_contents c _ _); iexact H15
      isplitl [H16]; · iapply (some_contents c _ _); iexact H16
      isplitl [H17]; · iapply (some_contents c _ _); iexact H17
      iapply (some_contents c _ _); iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (some_contents c _ _); iexact H10
  isplitl [H11]; · iapply (some_contents c _ _); iexact H11
  isplitl [H12]; · iapply (some_contents c _ _); iexact H12
  iapply (some_contents c _ _); iexact H13

/-- The first point of a later batch. -/
theorem body_reset (t : Fin cfg0.N) (h0 : ¬t.val % 256 = 0) (h1 : t.val % 8 = 0) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, Phi_eq, Phi_eq, PhiA0_eq,
    leaves0, leaves1, leaves2, leaves3, leaves4, leaves5, leaves6]
  iintro ⟨⟨⟨H14, H15, H16, H17, H18⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply ((runReset c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 3 t) (iblk m c 4 t) (iblk m c 5 t) (iblk m c 6 t)).2.2.2 Set.univ (fun _ => _))
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, H14, H15, H16⟩
  isplitl [H14 H15 H16 H17 H18 Hg]
  · isplitl [H14 H15 H16 H17 H18]
    · isplitl [H14]; · iapply (some_contents c _ _); iexact H14
      isplitl [H15]; · iapply (some_contents c _ _); iexact H15
      isplitl [H16]; · iapply (some_contents c _ _); iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A point in the middle of a batch. -/
theorem body_step (t : Fin cfg0.N) (h0 : ¬t.val % 256 = 0) (h1 : ¬t.val % 8 = 0) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, Phi_eq, Phi_eq, PhiA0_eq,
    leaves0, leaves1, leaves2, leaves3, leaves4, leaves5, leaves6]
  iintro ⟨⟨⟨⟨%d14, H14⟩, ⟨%d15, H15⟩, ⟨%d16, H16⟩, H17, H18⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply ((runStep c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 3 t) (iblk m c 4 t) (iblk m c 5 t) (iblk m c 6 t) d14 d15 d16).2.2.2 Set.univ (fun _ => _))
  isplitl [H2]; · iexact H2
  isplitl [H5]; · iexact H5
  isplitl [H6]; · iexact H6
  isplitl [H7]; · iexact H7
  isplitl [H8]; · iexact H8
  isplitl [H14]; · iexact H14
  isplitl [H15]; · iexact H15
  isplitl [H16]; · iexact H16
  iintro ⟨H2, H5, H6, H7, H8, H14, H15, H16⟩
  isplitl [H14 H15 H16 H17 H18 Hg]
  · isplitl [H14 H15 H16 H17 H18]
    · isplitl [H14]; · iapply (some_contents c _ _); iexact H14
      isplitl [H15]; · iapply (some_contents c _ _); iexact H15
      isplitl [H16]; · iapply (some_contents c _ _); iexact H16
      isplitl [H17]; · iexact H17
      iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The last point of a batch. -/
theorem body_last (t : Fin cfg0.N) (h0 : ¬t.val % 256 = 0) (h1 : ¬t.val % 8 = 0) (h2 : t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, Phi_eq, Phi_eq, PhiA0_eq,
    leaves0, leaves1, leaves2, leaves3, leaves4, leaves5, leaves6]
  iintro ⟨⟨⟨⟨%d14, H14⟩, ⟨%d15, H15⟩, ⟨%d16, H16⟩, ⟨%d17, H17⟩, ⟨%d18, H18⟩⟩, Hg⟩, Ho, ⟨%d2, H2⟩, ⟨%d3, H3⟩, ⟨%d4, H4⟩, ⟨%d5, H5⟩, ⟨%d6, H6⟩, ⟨%d7, H7⟩, ⟨%d8, H8⟩, H9, H10, H11, H12, H13⟩
  iapply ((runLast c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 3 t) (iblk m c 4 t) (iblk m c 5 t) (iblk m c 6 t) d17 d18 d14 d15 d16).2.2.2.2 Set.univ (fun _ => _))
  isplitl [H2]; · iexact H2
  isplitl [H5]; · iexact H5
  isplitl [H6]; · iexact H6
  isplitl [H7]; · iexact H7
  isplitl [H8]; · iexact H8
  isplitl [H17]; · iexact H17
  isplitl [H18]; · iexact H18
  isplitl [H9]; · iexact H9
  isplitl [H14]; · iexact H14
  isplitl [H15]; · iexact H15
  isplitl [H16]; · iexact H16
  iintro ⟨H2, H5, H6, H7, H8, H17, H18, H9, H14, H15, H16⟩
  isplitl [H14 H15 H16 H17 H18 Hg]
  · isplitl [H14 H15 H16 H17 H18]
    · isplitl [H14]; · iapply (some_contents c _ _); iexact H14
      isplitl [H15]; · iapply (some_contents c _ _); iexact H15
      isplitl [H16]; · iapply (some_contents c _ _); iexact H16
      isplitl [H17]; · iexists _; iexact H17
      iexists _; iexact H18
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (some_contents c _ _); iexact H9
  isplitl [H10]; · iexact H10
  isplitl [H11]; · iexact H11
  isplitl [H12]; · iexact H12
  iexact H13

/-- The body at any point. -/
theorem body_any (t : Fin cfg0.N) :
    bodyPre m c t ⊢ wp frame (wpE (defs₀ (F := F)) Variants.none c none) Set.univ (bodyAt0 t) (fun _ => bodyPost m c t) := by
  by_cases h0 : t.val % 256 = 0
  · exact body_first m c t h0 (by omega) (by omega)
  · by_cases h1 : t.val % 8 = 0
    · exact body_reset m c t h0 h1 (by omega)
    · by_cases h2 : t.val % 8 = 7
      · exact body_last m c t h0 h1 h2
      · exact body_step m c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ outs := fun t => by
  rw [bigSep_W0, bigSep_W0, defs₀_row]
  exact triple_restated (body_any m c t) rfl .rfl fun _ => .rfl

/-- The buffers that the host operations after the region write. -/
def tail : Finset (Ref sig .tc) := {main_v9, main_v10, main_v11, main_v12, main_v13}

theorem tail_writes : ∀ ops ∈ ([hostOps1] : List (List (HloOp τ sig (Elt F)))), ∀ op ∈ ops,
    ∀ b : Ref sig .tc, Proc.devRef .tc b ∈ op.writes → b ∈ tail := by
  intro ops hops op hop
  simp only [List.mem_cons, List.mem_nil_iff, or_false] at hops
  subst hops
  simp only [hostOps1, List.mem_cons, List.mem_nil_iff, or_false] at hop
  rcases hop with rfl | rfl | rfl | rfl | rfl
  all_goals
    intro b hb
    simp only [StableHlo.reshape_writes, Finset.mem_singleton] at hb
    cases Proc.devRef_injective _ hb
    decide

-- the launch theorem's implicit arguments are found by unifying its conclusion with this one
set_option backward.isDefEq.respectTransparency.types false in
set_option maxHeartbeats 800000 in
/-- Every execution ends, with every buffer that neither the region nor the host operations after it write as the region
    found it, and every semaphore at zero. -/
theorem run_quiescent : θ_run defs (onTc (τ := τ) (main (F := F))) (s₀ m ρ)
    (fun r => (Pipeline.RDat.FramePostR (cfgs 0) (fun c => (dats m 0 c).toRForget outs) tail (V m)) r ∧ r.2.sem = fun _ => 0) :=
  Pipeline.θ_run_frame_around_T_forget (Q' := _) cfgs (dats m) (0 : Fin 1) launch0 defs₀ Variants.none outs tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := Phi_eq m)

/-- The argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) (run_quiescent m ρ)

end Cert.KernelIdeal.AnyRun
-- ==== Proof.Same.lean ====
/- The kernel and its idealisation are one program at any number format, so a run of the second is a run of the first. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F] [Cert.Kernel.Facts] [Cert.KernelIdeal.Facts]

theorem body_eq : (@Cert.Kernel.cc0__attn F _ _) = (@Cert.KernelIdeal.cc0__attn F _ _) := rfl

theorem windows_eq : Cert.Kernel.cfg0 = Cert.KernelIdeal.cfg0 := rfl

theorem bodies_eq : (Cert.Kernel.defs₀ (F := F)) = (Cert.KernelIdeal.defs₀ (F := F)) := by
  unfold Cert.Kernel.defs₀ Cert.KernelIdeal.defs₀
  congr 1
  funext l a
  obtain ⟨l, hl⟩ := l
  match l, hl, a with
  | 0, _, (t, s) => rfl

theorem defs_eq : (Cert.Kernel.defs (F := F)) = (Cert.KernelIdeal.defs (F := F)) := by
  unfold Cert.Kernel.defs Cert.KernelIdeal.defs
  rw [bodies_eq]
  rfl

theorem main_eq : (Cert.Kernel.main (F := F)) = (Cert.KernelIdeal.main (F := F)) := rfl

/-- What every run of the idealisation's text ends with, every run of the kernel ends with. -/
theorem run_kernel (Q : _ → Prop) (m : (ℓ : Loc Cert.Kernel.nD Cert.Kernel.τ Cert.Kernel.sig) → Buf (Elt F) ℓ)
    (g : Dev Cert.Kernel.nD → PrngReg)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq]
  exact h

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.AnyRun
public import proofs.«01_k».proof.Proof.Same
public import Idealize.ShloMosaic.Adequacy
public import Idealize.ShloMosaic.Init

@[expose] public section

noncomputable section

namespace Cert.Proof

open Idealize.ShloMosaic Idealize.SL.Sem Cert.Kernel

open Cert.ReferenceIdeal.Attn (refOut refCodes refScales res_eq) in
/-- Both programs end with the same five results: the reference's terms of the arguments. -/
theorem algebraic : Cert.algebraic_KernelIdeal_ReferenceIdeal := fun m g m' g' _ hag =>
  ⟨_, _, _, _, _, Cert.KernelIdeal.Attn.run_values m g,
    (θ_run Cert.ReferenceIdeal.defs _ _).mono (fun r h c => by
      obtain ⟨h0, h1, h2, h3, h4, h5, h6⟩ := hag c
      obtain ⟨r0, r1, r2, r3, r4, hargs⟩ := h c
      refine ⟨r0.trans ((res_eq m' c).trans ?_), r1.trans (congrArg refCodes h1), r2.trans (congrArg refScales h1),
        r3.trans (congrArg refCodes h2), r4.trans (congrArg refScales h2), hargs⟩
      rw [h0, h1, h2, h3, h4, h5, h6]) (Cert.ReferenceIdeal.Value.run (F := Ideal) m' g')⟩

theorem claim : Cert.Claim := ⟨Cert.Kernel.Gen.facts, Cert.KernelIdeal.Gen.facts, Cert.ReferenceIdeal.Gen.facts,
  fun m ρ _ => Cert.Same.run_kernel _ m ρ (Cert.KernelIdeal.AnyRun.frame (F := Bits) m ρ),
  fun m ρ _ => Cert.KernelIdeal.Attn.frame m ρ,
  fun m ρ _ => (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ),
  trivial,
  algebraic⟩

end Cert.Proof

end
